-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "inv127" .f32 0x3C010204#32 ((1 / 127 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v56) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .bf16 := Host.absf main_arg2
  let main_cst_2 : FVec F S_ .bf16 := constant S_ .bf16 0x7F80#16
  let main_v10 : FVec F S1x1024x8x128 .bf16 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x1024x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .bf16 := Host.absf main_arg2
  let main_cst_2 : FVec F S_ .bf16 := constant S_ .bf16 0x7F80#16
  let main_v10 : FVec F S1x4096x8x128 .bf16 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S2x1024x1024 : Shape := ⟨3, ![2, 1024, 1024]⟩
abbrev S4x256x1024 : Shape := ⟨3, ![4, 256, 1024]⟩
abbrev S4x256x1 : Shape := ⟨3, ![4, 256, 1]⟩
abbrev S2x4 : Shape := ⟨2, ![2, 4]⟩
abbrev S4 : Shape := ⟨1, ![4]⟩
abbrev S_ : Shape := ⟨0, ![]⟩
abbrev S1024x8x128 : Shape := ⟨3, ![1024, 8, 128]⟩
abbrev S256x256 : Shape := ⟨2, ![256, 256]⟩
abbrev S256x1024 : Shape := ⟨2, ![256, 1024]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x256x1024 : Shape := ⟨3, ![1, 256, 1024]⟩
abbrev S1x256x1 : Shape := ⟨3, ![1, 256, 1]⟩
abbrev S1x1 : Shape := ⟨2, ![1, 1]⟩
abbrev S1 : Shape := ⟨1, ![1]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩

abbrev nBuf : Space → Nat
  | .hbm => 6
  | .vmem => 9
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S2x1024x1024, .bf16⟩
  | .local _ .vmem, ⟨7, _⟩ => ⟨S4x256x1024, .i8⟩
  | .local _ .vmem, ⟨8, _⟩ => ⟨S4x256x1, .f32⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_15 : BitVec 32 := 0#32
  let c1_i32_13 : BitVec 32 := 1#32
  let c1_i32_14 : BitVec 32 := 1#32
  let v27 : BitVec 32 := Scalar.muli c1_i32_13 c1_i32_14
  let v28 : BitVec 32 := Scalar.addi c0_i32_15 v27
  v28.toNat
def k0_dev2 : Nat :=
  let c0_i32_19 : BitVec 32 := 0#32
  let c3_i32_17 : BitVec 32 := 3#32
  let c1_i32_18 : BitVec 32 := 1#32
  let v29 : BitVec 32 := Scalar.muli c3_i32_17 c1_i32_18
  let v30 : BitVec 32 := Scalar.addi c0_i32_19 v29
  v30.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .eq v2 c1_i32_1
  let v8 : BitVec 32 := Scalar.extui v7
  let c0_i32_2 : BitVec 32 := 0#32
  let v9 : BitVec 1 := Scalar.cmpi .ne v8 c0_i32_2
  v9

def k0_dev3 : Nat :=
  let c0_i32_15 : BitVec 32 := 0#32
  let c0_i32_13 : BitVec 32 := 0#32
  let c1_i32_14 : BitVec 32 := 1#32
  let v27 : BitVec 32 := Scalar.muli c0_i32_13 c1_i32_14
  let v28 : BitVec 32 := Scalar.addi c0_i32_15 v27
  v28.toNat
def k0_dev4 : Nat :=
  let c0_i32_19 : BitVec 32 := 0#32
  let c2_i32_17 : BitVec 32 := 2#32
  let c1_i32_18 : BitVec 32 := 1#32
  let v29 : BitVec 32 := Scalar.muli c2_i32_17 c1_i32_18
  let v30 : BitVec 32 := Scalar.addi c0_i32_19 v29
  v30.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .eq v2 c2_i32
  let v11 : BitVec 32 := Scalar.extui v10
  let c0_i32_3 : BitVec 32 := 0#32
  let v12 : BitVec 1 := Scalar.cmpi .ne v11 c0_i32_3
  v12

def k0_dev5 : Nat :=
  let c0_i32_15 : BitVec 32 := 0#32
  let c1_i32_13 : BitVec 32 := 1#32
  let c1_i32_14 : BitVec 32 := 1#32
  let v27 : BitVec 32 := Scalar.muli c1_i32_13 c1_i32_14
  let v28 : BitVec 32 := Scalar.addi c0_i32_15 v27
  v28.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .eq v2 c3_i32
  let v14 : BitVec 32 := Scalar.extui v13
  let c0_i32_4 : BitVec 32 := 0#32
  let v15 : BitVec 1 := Scalar.cmpi .ne v14 c0_i32_4
  v15

def k0_dev6 : Nat :=
  let c0_i32_15 : BitVec 32 := 0#32
  let c0_i32_13 : BitVec 32 := 0#32
  let c1_i32_14 : BitVec 32 := 1#32
  let v27 : BitVec 32 := Scalar.muli c0_i32_13 c1_i32_14
  let v28 : BitVec 32 := Scalar.addi c0_i32_15 v27
  v28.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v16 : BitVec 1 := Scalar.cmpi .eq v2 c0_i32_5
  let v17 : BitVec 32 := Scalar.extui v16
  let c0_i32_6 : BitVec 32 := 0#32
  let v18 : BitVec 1 := Scalar.cmpi .ne v17 c0_i32_6
  v18

def k0_dev7 : Nat :=
  let c0_i32_151 : BitVec 32 := 0#32
  let c1_i32_149 : BitVec 32 := 1#32
  let c1_i32_150 : BitVec 32 := 1#32
  let v273 : BitVec 32 := Scalar.muli c1_i32_149 c1_i32_150
  let v274 : BitVec 32 := Scalar.addi c0_i32_151 v273
  v274.toNat
def k0_dev8 : Nat :=
  let c0_i32_163 : BitVec 32 := 0#32
  let c3_i32_161 : BitVec 32 := 3#32
  let c1_i32_162 : BitVec 32 := 1#32
  let v283 : BitVec 32 := Scalar.muli c3_i32_161 c1_i32_162
  let v284 : BitVec 32 := Scalar.addi c0_i32_163 v283
  v284.toNat
def k0_dev9 : Nat :=
  let c0_i32_175 : BitVec 32 := 0#32
  let c1_i32_173 : BitVec 32 := 1#32
  let c1_i32_174 : BitVec 32 := 1#32
  let v293 : BitVec 32 := Scalar.muli c1_i32_173 c1_i32_174
  let v294 : BitVec 32 := Scalar.addi c0_i32_175 v293
  v294.toNat
def k0_dev10 : Nat :=
  let c0_i32_187 : BitVec 32 := 0#32
  let c3_i32_185 : BitVec 32 := 3#32
  let c1_i32_186 : BitVec 32 := 1#32
  let v303 : BitVec 32 := Scalar.muli c3_i32_185 c1_i32_186
  let v304 : BitVec 32 := Scalar.addi c0_i32_187 v303
  v304.toNat
def k0_dev11 : Nat :=
  let c0_i32_389 : BitVec 32 := 0#32
  let c1_i32_387 : BitVec 32 := 1#32
  let c1_i32_388 : BitVec 32 := 1#32
  let v603 : BitVec 32 := Scalar.muli c1_i32_387 c1_i32_388
  let v604 : BitVec 32 := Scalar.addi c0_i32_389 v603
  v604.toNat
def k0_dev12 : Nat :=
  let c0_i32_401 : BitVec 32 := 0#32
  let c3_i32_399 : BitVec 32 := 3#32
  let c1_i32_400 : BitVec 32 := 1#32
  let v613 : BitVec 32 := Scalar.muli c3_i32_399 c1_i32_400
  let v614 : BitVec 32 := Scalar.addi c0_i32_401 v613
  v614.toNat
def k0_dev13 : Nat :=
  let c0_i32_413 : BitVec 32 := 0#32
  let c1_i32_411 : BitVec 32 := 1#32
  let c1_i32_412 : BitVec 32 := 1#32
  let v623 : BitVec 32 := Scalar.muli c1_i32_411 c1_i32_412
  let v624 : BitVec 32 := Scalar.addi c0_i32_413 v623
  v624.toNat
def k0_dev14 : Nat :=
  let c0_i32_425 : BitVec 32 := 0#32
  let c3_i32_423 : BitVec 32 := 3#32
  let c1_i32_424 : BitVec 32 := 1#32
  let v633 : BitVec 32 := Scalar.muli c3_i32_423 c1_i32_424
  let v634 : BitVec 32 := Scalar.addi c0_i32_425 v633
  v634.toNat
def k0_dev15 : Nat :=
  let c0_i32_626 : BitVec 32 := 0#32
  let c1_i32_624 : BitVec 32 := 1#32
  let c1_i32_625 : BitVec 32 := 1#32
  let v933 : BitVec 32 := Scalar.muli c1_i32_624 c1_i32_625
  let v934 : BitVec 32 := Scalar.addi c0_i32_626 v933
  v934.toNat
def k0_dev16 : Nat :=
  let c0_i32_638 : BitVec 32 := 0#32
  let c3_i32_636 : BitVec 32 := 3#32
  let c1_i32_637 : BitVec 32 := 1#32
  let v943 : BitVec 32 := Scalar.muli c3_i32_636 c1_i32_637
  let v944 : BitVec 32 := Scalar.addi c0_i32_638 v943
  v944.toNat
def k0_dev17 : Nat :=
  let c0_i32_650 : BitVec 32 := 0#32
  let c1_i32_648 : BitVec 32 := 1#32
  let c1_i32_649 : BitVec 32 := 1#32
  let v953 : BitVec 32 := Scalar.muli c1_i32_648 c1_i32_649
  let v954 : BitVec 32 := Scalar.addi c0_i32_650 v953
  v954.toNat
def k0_dev18 : Nat :=
  let c0_i32_662 : BitVec 32 := 0#32
  let c3_i32_660 : BitVec 32 := 3#32
  let c1_i32_661 : BitVec 32 := 1#32
  let v963 : BitVec 32 := Scalar.muli c3_i32_660 c1_i32_661
  let v964 : BitVec 32 := Scalar.addi c0_i32_662 v963
  v964.toNat
def k0_dev19 : Nat :=
  let c0_i32_863 : BitVec 32 := 0#32
  let c1_i32_861 : BitVec 32 := 1#32
  let c1_i32_862 : BitVec 32 := 1#32
  let v1263 : BitVec 32 := Scalar.muli c1_i32_861 c1_i32_862
  let v1264 : BitVec 32 := Scalar.addi c0_i32_863 v1263
  v1264.toNat
def k0_dev20 : Nat :=
  let c0_i32_875 : BitVec 32 := 0#32
  let c3_i32_873 : BitVec 32 := 3#32
  let c1_i32_874 : BitVec 32 := 1#32
  let v1273 : BitVec 32 := Scalar.muli c3_i32_873 c1_i32_874
  let v1274 : BitVec 32 := Scalar.addi c0_i32_875 v1273
  v1274.toNat
def k0_dev21 : Nat :=
  let c0_i32_887 : BitVec 32 := 0#32
  let c1_i32_885 : BitVec 32 := 1#32
  let c1_i32_886 : BitVec 32 := 1#32
  let v1283 : BitVec 32 := Scalar.muli c1_i32_885 c1_i32_886
  let v1284 : BitVec 32 := Scalar.addi c0_i32_887 v1283
  v1284.toNat
def k0_dev22 : Nat :=
  let c0_i32_899 : BitVec 32 := 0#32
  let c3_i32_897 : BitVec 32 := 3#32
  let c1_i32_898 : BitVec 32 := 1#32
  let v1293 : BitVec 32 := Scalar.muli c3_i32_897 c1_i32_898
  let v1294 : BitVec 32 := Scalar.addi c0_i32_899 v1293
  v1294.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v19 : BitVec 1 := Scalar.cmpi .eq v2 c1_i32_7
  let v20 : BitVec 32 := Scalar.extui v19
  let c0_i32_8 : BitVec 32 := 0#32
  let v21 : BitVec 1 := Scalar.cmpi .ne v20 c0_i32_8
  v21

def k0_dev23 : Nat :=
  let c0_i32_43 : BitVec 32 := 0#32
  let c2_i32_41 : BitVec 32 := 2#32
  let c1_i32_42 : BitVec 32 := 1#32
  let v43 : BitVec 32 := Scalar.muli c2_i32_41 c1_i32_42
  let v44 : BitVec 32 := Scalar.addi c0_i32_43 v43
  v44.toNat
def k0_dev24 : Nat :=
  let c0_i32_55 : BitVec 32 := 0#32
  let c2_i32_53 : BitVec 32 := 2#32
  let c1_i32_54 : BitVec 32 := 1#32
  let v53 : BitVec 32 := Scalar.muli c2_i32_53 c1_i32_54
  let v54 : BitVec 32 := Scalar.addi c0_i32_55 v53
  v54.toNat
def k0_dev25 : Nat :=
  let c0_i32_99 : BitVec 32 := 0#32
  let c2_i32_97 : BitVec 32 := 2#32
  let c1_i32_98 : BitVec 32 := 1#32
  let v89 : BitVec 32 := Scalar.muli c2_i32_97 c1_i32_98
  let v90 : BitVec 32 := Scalar.addi c0_i32_99 v89
  v90.toNat
def k0_dev26 : Nat :=
  let c0_i32_111 : BitVec 32 := 0#32
  let c2_i32_109 : BitVec 32 := 2#32
  let c1_i32_110 : BitVec 32 := 1#32
  let v99 : BitVec 32 := Scalar.muli c2_i32_109 c1_i32_110
  let v100 : BitVec 32 := Scalar.addi c0_i32_111 v99
  v100.toNat
def k0_dev27 : Nat :=
  let c0_i32_154 : BitVec 32 := 0#32
  let c2_i32_152 : BitVec 32 := 2#32
  let c1_i32_153 : BitVec 32 := 1#32
  let v135 : BitVec 32 := Scalar.muli c2_i32_152 c1_i32_153
  let v136 : BitVec 32 := Scalar.addi c0_i32_154 v135
  v136.toNat
def k0_dev28 : Nat :=
  let c0_i32_166 : BitVec 32 := 0#32
  let c2_i32_164 : BitVec 32 := 2#32
  let c1_i32_165 : BitVec 32 := 1#32
  let v145 : BitVec 32 := Scalar.muli c2_i32_164 c1_i32_165
  let v146 : BitVec 32 := Scalar.addi c0_i32_166 v145
  v146.toNat
def k0_dev29 : Nat :=
  let c0_i32_209 : BitVec 32 := 0#32
  let c2_i32_207 : BitVec 32 := 2#32
  let c1_i32_208 : BitVec 32 := 1#32
  let v181 : BitVec 32 := Scalar.muli c2_i32_207 c1_i32_208
  let v182 : BitVec 32 := Scalar.addi c0_i32_209 v181
  v182.toNat
def k0_dev30 : Nat :=
  let c0_i32_221 : BitVec 32 := 0#32
  let c2_i32_219 : BitVec 32 := 2#32
  let c1_i32_220 : BitVec 32 := 1#32
  let v191 : BitVec 32 := Scalar.muli c2_i32_219 c1_i32_220
  let v192 : BitVec 32 := Scalar.addi c0_i32_221 v191
  v192.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv127" => some ((1 / 127 : ℝ) : EReal)
  | "scale" => some (((Real.sqrt 128)⁻¹ : ℝ) : EReal)
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩
abbrev S1x1024 : Shape := ⟨2, ![1, 1024]⟩
abbrev S1x1024x1 : Shape := ⟨3, ![1, 1024, 1]⟩
abbrev S4x1024x1024 : Shape := ⟨3, ![4, 1024, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x1024x1024, .f32⟩
  | .hbm, ⟨6, _⟩ => ⟨S1x1024x1024, .bf16⟩
  | .hbm, ⟨7, _⟩ => ⟨S1x1024x8x128, .bf16⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S1x4096, .i32⟩
  | .hbm, ⟨48, _⟩ => ⟨S1024x4096, .i32⟩
  | .hbm, ⟨49, _⟩ => ⟨S1024x4096, .i32⟩
  | .hbm, ⟨50, _⟩ => ⟨S1024x4096, .i1⟩
  | .hbm, ⟨51, _⟩ => ⟨S1x8x1024x4096, .f32⟩
  | .hbm, ⟨52, _⟩ => ⟨S1x8x1024x4096, .bf16⟩
  | .hbm, ⟨53, _⟩ => ⟨S1x8x1024x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1x8x1024x4096, .f32⟩
  | .hbm, ⟨58, _⟩ => ⟨S1x8x1024x4096, .f32⟩
  | .hbm, ⟨59, _⟩ => ⟨S1x1x1024x4096, .i1⟩
  | .hbm, ⟨60, _⟩ => ⟨S_, .f32⟩
  | .hbm, ⟨61, _⟩ => ⟨S_, .f32⟩
  | .hbm, ⟨62, _⟩ => ⟨S1x8x1024x4096, .i1⟩
  | .hbm, ⟨63, _⟩ => ⟨S1x8x1024x4096, .f32⟩
  | .hbm, ⟨64, _⟩ => ⟨S1x8x1024x4096, .f32⟩
  | .hbm, ⟨65, _⟩ => ⟨S_, .f32⟩
  | .hbm, ⟨66, _⟩ => ⟨S1x8x1024, .f32⟩
  | .hbm, ⟨67, _⟩ => ⟨S1x8x1024x1, .f32⟩
  | .hbm, ⟨68, _⟩ => ⟨S1x8x1024x4096, .f32⟩
  | .hbm, ⟨69, _⟩ => ⟨S1x8x1024x4096, .f32⟩
  | .hbm, ⟨70, _⟩ => ⟨S1x8x1024x4096, .f32⟩
  | .hbm, ⟨71, _⟩ => ⟨S_, .i1⟩
  | .hbm, ⟨72, _⟩ => ⟨S1024, .i1⟩
  | .hbm, ⟨73, _⟩ => ⟨S1x1x1024x1, .i1⟩
  | .hbm, ⟨74, _⟩ => ⟨S_, .f32⟩
  | .hbm, ⟨75, _⟩ => ⟨S1x8x1024, .f32⟩
  | .hbm, ⟨76, _⟩ => ⟨S1x8x1024x1, .f32⟩
  | .hbm, ⟨77, _⟩ => ⟨S_, .f32⟩
  | .hbm, ⟨78, _⟩ => ⟨S_, .f32⟩
  | .hbm, ⟨79, _⟩ => ⟨S1x8x1024x1, .i1⟩
  | .hbm, ⟨80, _⟩ => ⟨S1x8x1024x1, .f32⟩
  | .hbm, ⟨81, _⟩ => ⟨S1x8x1024x1, .f32⟩
  | .hbm, ⟨82, _⟩ => ⟨S1x8x1024x4096, .f32⟩
  | .hbm, ⟨83, _⟩ => ⟨S1x8x1024x4096, .f32⟩
  | .hbm, ⟨84, _⟩ => ⟨S1x1x1024x1, .i1⟩
  | .hbm, ⟨85, _⟩ => ⟨S_, .f32⟩
  | .hbm, ⟨86, _⟩ => ⟨S_, .f32⟩
  | .hbm, ⟨87, _⟩ => ⟨S1x8x1024x4096, .i1⟩
  | .hbm, ⟨88, _⟩ => ⟨S1x8x1024x4096, .f32⟩
  | .hbm, ⟨89, _⟩ => ⟨S1x8x1024x4096, .f32⟩
  | .hbm, ⟨90, _⟩ => ⟨S1x4096x8x128, .f32⟩
  | .hbm, ⟨91, _⟩ => ⟨S1x8x128x1024, .f32⟩
  | .hbm, ⟨92, _⟩ => ⟨S1x1024x8x128, .f32⟩
  | .hbm, ⟨93, _⟩ => ⟨S1x1024x1024, .f32⟩
  | .hbm, ⟨94, _⟩ => ⟨S1024x1024, .f32⟩
  | .hbm, ⟨95, _⟩ => ⟨S1x1024x1024, .f32⟩
  | .hbm, ⟨96, _⟩ => ⟨S1x1024x1024, .f32⟩
  | .hbm, ⟨97, _⟩ => ⟨S_, .f32⟩
  | .hbm, ⟨98, _⟩ => ⟨S1x1024, .f32⟩
  | .hbm, ⟨99, _⟩ => ⟨S1x1024x1, .f32⟩
  | .hbm, ⟨100, _⟩ => ⟨S_, .f32⟩
  | .hbm, ⟨101, _⟩ => ⟨S1x1024x1, .f32⟩
  | .hbm, ⟨102, _⟩ => ⟨S1x1024x1, .f32⟩
  | .hbm, ⟨103, _⟩ => ⟨S1x1024x1024, .f32⟩
  | .hbm, ⟨104, _⟩ => ⟨S1x1024x1024, .f32⟩
  | .hbm, ⟨105, _⟩ => ⟨S_, .f32⟩
  | .hbm, ⟨106, _⟩ => ⟨S1x1024x1024, .f32⟩
  | .hbm, ⟨107, _⟩ => ⟨S1x1024x1024, .f32⟩
  | .hbm, ⟨108, _⟩ => ⟨S1x1024x1024, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1x1024x1024, .f32⟩
  | .hbm, ⟨113, _⟩ => ⟨S1x1024x1024, .f32⟩
  | .hbm, ⟨114, _⟩ => ⟨S_, .f32⟩
  | .hbm, ⟨115, _⟩ => ⟨S1x1024x1024, .f32⟩
  | .hbm, ⟨116, _⟩ => ⟨S1x1024x1024, .f32⟩
  | .hbm, ⟨117, _⟩ => ⟨S1x1024x1024, .f32⟩
  | .hbm, ⟨118, _⟩ => ⟨S1x1024x1024, .f32⟩
  | .hbm, ⟨119, _⟩ => ⟨S_, .f32⟩
  | .hbm, ⟨120, _⟩ => ⟨S1x1024x1024, .f32⟩
  | .hbm, ⟨121, _⟩ => ⟨S1x1024x1024, .f32⟩
  | .hbm, ⟨122, _⟩ => ⟨S4x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_cst_7 : Ref sig .tc := ⟨.hbm, 97, rfl⟩
abbrev main_v42 : Ref sig .tc := ⟨.hbm, 98, rfl⟩
abbrev main_v43 : Ref sig .tc := ⟨.hbm, 99, rfl⟩
abbrev main_cst_8 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_cst_9 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_10 : Ref sig .tc := ⟨.hbm, 109, rfl⟩
abbrev main_cst_11 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_12 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩

abbrev nD : Nat := 1
abbrev τ : Topo := Topo.v7x

variable {F : FTy → Type} [FloatOps F]
-- ==== Proof.Protocol.lean ====
/-
# The protocol of the sharded attention's broadcast

Device 0 computes the attention block chunk by chunk (four chunks of 256 rows), quantises each chunk to int8 codes and
one scale per row, and sends both to devices 1 and 3; device 1 forwards them to device 2. Every device waits on the
runtime's barrier semaphore first.

Cells. Each device has 25: its barrier cell, and for each of the two buffers (0 = codes, 1 = scales) and each chunk `k`
two send cells (slots 0 and 1) and one receive cell. Every cell has one round:

* the barrier cell of `c` is signalled one unit by each neighbour in `barFrom c`. A signal of a receiver to its sender
  (1 → 0, 3 → 0, 2 → 1) hands over the receiver's two landing buffers, chunk by chunk, at any contents; the other
  signals hand over nothing;
* the receive cell of chunk `k` on devices 1, 2, 3 is credited once, by the transfer of that chunk, and hands over the
  chunk of the landing buffer holding device 0's codes (or scales);
* the send cell of chunk `k` is credited once by the same transfer and hands the lent share of the source back.

Everything is stated for arbitrary codes `DC` and scales `SC`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra -/

/-- A duty is named by a device: the signaller for a barrier cell, 0 for a transfer cell. -/
abbrev UA : Type := URounds (GSem nD τ sig) (Fin 4)
abbrev UU : Type := UR sig nD τ × UA

local notation "𝕄" => MT nD τ sig Unit (Elt F) ℕ UU ℕ

abbrev EP : Emb (UR sig nD τ) (MT nD τ sig Unit (Elt F) ℕ UU ℕ) := embL
abbrev ER : Emb UA (MT nD τ sig Unit (Elt F) ℕ UU ℕ) := embR

/-! ## The cells -/

/-- A cell of a device: `none` the barrier; `some (b, j, k)` buffer `b`'s chunk `k`, sent on slot `j` (0, 1) or received
    (`j = 2`). -/
abbrev CI : Type := Option (Fin 2 × Fin 3 × Fin 4)

set_option backward.proofsInPublic true in
/-- The DMA semaphore of buffer `b`'s cell `j` for chunk `k`. -/
def dmaOf (b : Fin 2) (j : Fin 3) (k : Fin 4) : DmaSem sig :=
  ⟨6 + 12 * b.val + 4 * j.val + k.val, by have := b.isLt; have := j.isLt; have := k.isLt; show _ < 30; omega⟩

abbrev semOf : CI → SemLoc sig
  | none => .reg barrier0
  | some (b, j, k) => .dma (dmaOf b j k)

set_option backward.proofsInPublic true in
/-- The cell a DMA semaphore's number stands for. -/
def idxOfDma (n : ℕ) : Option CI :=
  if n < 6 then none
  else some (some (⟨(n - 6) / 12 % 2, Nat.mod_lt _ (by decide)⟩, ⟨(n - 6) % 12 / 4 % 3, Nat.mod_lt _ (by decide)⟩,
    ⟨(n - 6) % 4, Nat.mod_lt _ (by decide)⟩))

/-- Which of the protocol's cells a semaphore is, if any. -/
def idxOf : SemLoc sig → Option CI
  | .reg q => if q = barrier0 then some none else none
  | .dma q => idxOfDma q.val

theorem idxOf_semOf (i : CI) : idxOf (semOf i) = some i := by
  rcases i with _ | ⟨b, j, k⟩
  · rfl
  · revert b j k; decide

theorem semOf_injective : Function.Injective semOf := fun i j h => by
  have := congrArg idxOf h
  rw [idxOf_semOf, idxOf_semOf] at this
  exact Option.some.inj this

abbrev cell (c : Dev nD) (i : CI) : GSem nD τ sig := ((c : Thread nD τ), semOf i)

theorem cell_injective : Function.Injective (fun ci : Dev nD × CI => cell ci.1 ci.2) := by
  rintro ⟨c, i⟩ ⟨c', i'⟩ h
  have h1 : c = c' := by have := congrArg (fun g : GSem nD τ sig => g.1.1) h; exact this
  have h2 : i = i' := semOf_injective (congrArg Prod.snd h)
  rw [h1, h2]

theorem cell_eq_iff {c c' : Dev nD} {i i' : CI} : Iff (cell c i = cell c' i') (c = c' ∧ i = i') :=
  ⟨fun h => Prod.ext_iff.mp (cell_injective (a₁ := (c, i)) (a₂ := (c', i')) h), fun h => by rw [h.1, h.2]⟩

/-! ## The memrefs and their chunks -/

abbrev dM : Memref sig .tc .vmem S4x256x1024 .i8 := Memref.whole cc0_scratch1
abbrev sM : Memref sig .tc .vmem S4x256x1 .f32 := Memref.whole cc0_scratch2

theorem inbD (k : Fin 4) : ∀ a, (![k.val, 0, 0] : Fin 3 → ℕ) a + S1x256x1024.size a ≤ S4x256x1024.size a := by
  revert k; decide
theorem inbS (k : Fin 4) : ∀ a, (![k.val, 0, 0] : Fin 3 → ℕ) a + S1x256x1.size a ≤ S4x256x1.size a := by
  revert k; decide

/-- Chunk `k` of the codes; of the scales. -/
abbrev rD (k : Fin 4) : Rect S4x256x1024 := Rect.unit (s := S4x256x1024) ![k.val, 0, 0] S1x256x1024.size (inbD k)
abbrev rS (k : Fin 4) : Rect S4x256x1 := Rect.unit (s := S4x256x1) ![k.val, 0, 0] S1x256x1.size (inbS k)

/-- Chunk `k` of the codes (of the scales) as the transfers address it. -/
abbrev dC (k : Fin 4) : Memref sig .tc .vmem S256x1024 .i8 :=
  (dM.slice (rD k) (fun _ => rfl)).squeeze S256x1024 squeezes_S1x256x1024_S256x1024
abbrev sC (k : Fin 4) : Memref sig .tc .vmem S256x1 .f32 :=
  (sM.slice (rS k) (fun _ => rfl)).squeeze S256x1 squeezes_S1x256x1_S256x1

/-- What a transfer of a chunk credits its cells with. -/
def amt (b : Fin 2) : ℕ := if b = 0 then (dC 0).view.dmaCredit else (sC 0).view.dmaCredit
theorem amt_pos (b : Fin 2) : 0 < amt b := by
  unfold amt; split <;> exact View.dmaCredit_pos _ (by decide)
theorem amt_d (k : Fin 4) : (dC k).view.dmaCredit = amt 0 := rfl
theorem amt_s (k : Fin 4) : (sC k).view.dmaCredit = amt 1 := rfl

/-! ## Contents -/

variable (DC : Fin 4 → Vec F S1x256x1024 .i8) (SC : Fin 4 → Vec F S1x256x1 .f32)

set_option backward.proofsInPublic true in
/-- Four chunks of 256 rows stacked. -/
def stack {W : ℕ} {α : Type} (C : Fin 4 → (⟨3, ![1, 256, W]⟩ : Shape).Idx → α) (i : (⟨3, ![4, 256, W]⟩ : Shape).Idx) : α :=
  C (i 0) (fun | 0 => ⟨0, Nat.one_pos⟩ | 1 => i 1 | 2 => i 2)

/-- Chunk `k` of the stack is chunk `k`. -/
theorem stack_at {W : ℕ} {α : Type} (C : Fin 4 → (⟨3, ![1, 256, W]⟩ : Shape).Idx → α) (k : Fin 4) (x : (⟨3, ![1, 256, W]⟩ : Shape).Idx)
    (i : (⟨3, ![4, 256, W]⟩ : Shape).Idx) (h0 : (i 0).val = k.val + 1 * (x 0).val) (h1 : (i 1).val = 0 + 1 * (x 1).val)
    (h2 : (i 2).val = 0 + 1 * (x 2).val) : stack C i = C k x := by
  have hx : (x 0).val = 0 := by have := (x 0).isLt; change (x 0).val < 1 at this; omega
  have hk : i 0 = k := Fin.ext (by rw [h0, hx]; rfl)
  unfold stack
  rw [hk]
  congr 1
  funext a
  match a with
  | 0 => exact Fin.ext hx.symm
  | 1 => exact Fin.ext (by show (i 1).val = _; rw [h1]; omega)
  | 2 => exact Fin.ext (by show (i 2).val = _; rw [h2]; omega)

/-- The whole codes buffer whose chunk `k` is `DC k`; the whole scales buffer whose chunk `k` is `SC k`. -/
abbrev bufD : (cc0_scratch1 : Ref sig .tc).ty.Contents (Elt F) := stack DC
abbrev bufS : (cc0_scratch2 : Ref sig .tc).ty.Contents (Elt F) := stack SC

theorem readAt_bufD (k : Fin 4) : dM.view.readAt (Elt F) (rD k).toLoadRect (bufD DC) = DC k :=
  funext fun x => stack_at DC k x _ rfl rfl rfl
theorem readAt_bufS (k : Fin 4) : sM.view.readAt (Elt F) (rS k).toLoadRect (bufS SC) = SC k :=
  funext fun x => stack_at SC k x _ rfl rfl rfl

/-- Chunk `k` of device `c`'s codes buffer (of its scales buffer), at share `q`. -/
def pcD (c : Dev nD) (q : PosShare TreeShare) (k : Fin 4) (f : (cc0_scratch1 : Ref sig .tc).ty.Contents (Elt F)) : sProp 𝕄 :=
  dM.view.loc (c : Thread nD τ) ↦[dM.view.setOn (rD k).set]{q} f
def pcS (c : Dev nD) (q : PosShare TreeShare) (k : Fin 4) (f : (cc0_scratch2 : Ref sig .tc).ty.Contents (Elt F)) : sProp 𝕄 :=
  sM.view.loc (c : Thread nD τ) ↦[sM.view.setOn (rS k).set]{q} f

/-- Buffer `b`'s chunk `k` on device `c` holding what device 0 computed. -/
def pc (c : Dev nD) (q : PosShare TreeShare) (b : Fin 2) (k : Fin 4) : sProp 𝕄 :=
  if b = 0 then pcD c q k (bufD DC) else pcS c q k (bufS SC)
/-- The same chunk at any contents. -/
def pcAny (c : Dev nD) (b : Fin 2) (k : Fin 4) : sProp 𝕄 :=
  if b = 0 then iprop(∃ f, pcD (F := F) c fullShare k f) else iprop(∃ f, pcS (F := F) c fullShare k f)

instance pcD_storable (c q k f) : BI.Storable (upEmb : UEmb _ 𝕄) (pcD (F := F) c q k f) := by unfold pcD; infer_instance
instance pcS_storable (c q k f) : BI.Storable (upEmb : UEmb _ 𝕄) (pcS (F := F) c q k f) := by unfold pcS; infer_instance
instance pc_storable (c q b k) : BI.Storable (upEmb : UEmb _ 𝕄) (pc DC SC c q b k) := by unfold pc; split <;> infer_instance
instance pcAny_storable (c b k) : BI.Storable (upEmb : UEmb _ 𝕄) (pcAny (F := F) c b k) := by unfold pcAny; split <;> infer_instance

theorem dC_set (k : Fin 4) : (dC k).view.set = dM.view.setOn (rD k).set := by
  show (View.reshape _ _ _).set = _; rw [View.set_reshape, View.set_slice]; rfl
theorem sC_set (k : Fin 4) : (sC k).view.set = sM.view.setOn (rS k).set := by
  show (View.reshape _ _ _).set = _; rw [View.set_reshape, View.set_slice]; rfl

/-! ## The schedule -/

/-- The share of a chunk lent to the transfer on slot `j`. -/
def shr (j : Fin 3) : PosShare TreeShare := if j = 0 then fullShare.left else fullShare.right

/-- Who signals device `c`'s barrier cell. -/
def barFrom (c : Dev nD) : Finset (Fin 4) := if c = 0 then {1, 3} else if c = 1 then {0, 2} else if c = 2 then {1} else {0}

/-- The signals that hand over the signaller's landing buffers: those of a receiver to its sender. -/
def lends (c : Dev nD) (d : Fin 4) : Bool := (c = 0 && (d = 1 || d = 3)) || (c = 1 && d = 2)

def dutiesI (c : Dev nD) : CI → Finset (Fin 4)
  | none => barFrom c
  | some (b, j, k) => if j = 2 then (if c = 0 then ∅ else {0}) else if c = 0 ∨ (c = 1 ∧ j = 1) then {0} else ∅

def amountI : CI → ℕ
  | none => 1
  | some (b, _, _) => amt b

theorem amountI_pos (i : CI) : 0 < amountI i := by
  rcases i with _ | ⟨b, j, k⟩
  · exact Nat.one_pos
  · exact amt_pos b

/-- Device `d`'s landing buffers, chunk by chunk, at any contents. -/
def landing (d : Dev nD) : sProp 𝕄 := bigSep Finset.univ fun p : Fin 2 × Fin 4 => pcAny (F := F) d p.1 p.2

instance landing_storable (d : Dev nD) : BI.Storable (upEmb : UEmb _ 𝕄) (landing (F := F) d) := by unfold landing; infer_instance

def payI (c : Dev nD) (i : CI) (d : Fin 4) : sProp 𝕄 :=
  match i with
  | none => if lends c d then landing (F := F) d else iprop(emp)
  | some (b, j, k) => if j = 2 then pc DC SC c fullShare b k else pc DC SC c (shr j) b k

instance payI_storable (c i d) : BI.Storable (upEmb : UEmb _ 𝕄) (payI DC SC c i d) := by
  rcases i with _ | ⟨b, j, k⟩
  · show BI.Storable upEmb (if lends c d then landing (F := F) d else iprop(emp)); split <;> infer_instance
  · show BI.Storable upEmb (if j = 2 then pc DC SC c fullShare b k else pc DC SC c (shr j) b k); split <;> infer_instance

def Rd : Rounds.Schedule (GSem nD τ sig) (Fin 4) 𝕄 where
  duties g r := if r = 0 ∧ g.1.2 = .tc then (match idxOf g.2 with | some i => dutiesI g.1.1 i | none => ∅) else ∅
  unitless _ := False
  amount g _ _ := match idxOf g.2 with | some i => amountI i | none => 1
  payload g _ d := match idxOf g.2 with | some i => payI DC SC g.1.1 i d | none => iprop(emp)
  amount_pos g _ _ _ := by
    show 0 < (match idxOf g.2 with | some i => amountI i | none => 1)
    split
    · exact amountI_pos _
    · exact Nat.one_pos

instance Rd_storable (g : GSem nD τ sig) (r : ℕ) (d : Fin 4) : BI.Storable (upEmb : UEmb _ 𝕄) ((Rd DC SC).payload g r d) := by
  show BI.Storable upEmb (match idxOf g.2 with | some i => payI DC SC g.1.1 i d | none => iprop(emp))
  split <;> infer_instance

theorem duties_cell (c : Dev nD) (i : CI) : (Rd DC SC).duties (cell c i) 0 = dutiesI c i := by
  dsimp only [Rd]; rw [if_pos ⟨rfl, rfl⟩, idxOf_semOf]
theorem duties_later (g : GSem nD τ sig) (r : ℕ) (hr : 1 ≤ r) : (Rd DC SC).duties g r = ∅ := by
  dsimp only [Rd]; rw [if_neg fun h => by omega]
theorem amount_cell (c : Dev nD) (i : CI) (d : Fin 4) : (Rd DC SC).amount (cell c i) 0 d = amountI i := by
  dsimp only [Rd]; rw [idxOf_semOf]
theorem payload_cell (c : Dev nD) (i : CI) (d : Fin 4) : (Rd DC SC).payload (cell c i) 0 d = payI DC SC c i d := by
  dsimp only [Rd]; rw [idxOf_semOf]
theorem expect_cell (c : Dev nD) (i : CI) : (Rd DC SC).expect (cell c i) 0 = (dutiesI c i).card * amountI i := by
  unfold Schedule.expect Schedule.amountOf
  rw [duties_cell, Finset.sum_congr rfl fun d _ => amount_cell DC SC c i d, Finset.sum_const, smul_eq_mul]
theorem rest_cell (c : Dev nD) (i : CI) :
    bigSep ((Rd DC SC).duties (cell c i) 0 \ ∅) (fun d => (Rd DC SC).payload (cell c i) 0 d) = bigSep (dutiesI c i) (payI DC SC c i) := by
  rw [Finset.sdiff_empty, duties_cell]; exact bigSep_congr fun d _ => payload_cell DC SC c i d

/-! ## What each device pays, in order -/

/-- The payments of device `c`, in program order: the barrier signals, then its transfers. -/
abbrev signals (c : Dev nD) : List (Dev nD × CI) :=
  if c = 0 then [(1, none), (3, none)] else if c = 1 then [(0, none), (2, none)] else if c = 2 then [(1, none)] else [(0, none)]
abbrev sendsOf (c : Dev nD) : List (Dev nD × CI) :=
  if c = 0 then [0, 1, 2, 3].flatMap fun k : Fin 4 =>
    [(1, some (0, 2, k)), (3, some (0, 2, k)), (1, some (1, 2, k)), (3, some (1, 2, k))]
  else if c = 1 then [0, 1, 2, 3].flatMap fun k : Fin 4 => [(2, some (0, 2, k)), (2, some (1, 2, k))]
  else []
abbrev pays (c : Dev nD) : List (Dev nD × CI) := signals c ++ sendsOf c

/-- What a list of payments still owes. -/
def tal : List (Dev nD × CI) → CellTallies nD τ sig Unit
  | [] => 0
  | x :: l => tal l + tallyAt (cell x.1 x.2) () (amountI x.2)

theorem tal_apply (l : List (Dev nD × CI)) (c : Dev nD) (i : CI) : tal l (cell c i) () = l.count (c, i) * amountI i := by
  induction l with
  | nil => rw [List.count_nil, Nat.zero_mul]; rfl
  | cons x l ih =>
    show (tal l + tallyAt (cell x.1 x.2) () (amountI x.2)) (cell c i) () = _
    rw [Pi.add_apply, Finsupp.add_apply, ih, tallyAt_apply, List.count_cons, Nat.add_mul]
    congr 1
    by_cases h : x = (c, i)
    · subst h; rw [if_pos ⟨rfl, rfl⟩, if_pos (beq_self_eq_true _), Nat.one_mul]
    · rw [if_neg fun h' => h (Prod.ext_iff.mpr ((cell_eq_iff.mp h'.1).imp Eq.symm Eq.symm)), if_neg (by simpa using h), Nat.zero_mul]

theorem tal_pos {l : List (Dev nD × CI)} {g : GSem nD τ sig} {u : Unit} (h : 0 < tal l g u) : ∃ x ∈ l, g = cell x.1 x.2 := by
  induction l with
  | nil => exact absurd h (Nat.lt_irrefl 0)
  | cons x l ih =>
    change 0 < (tal l + tallyAt (cell x.1 x.2) () (amountI x.2)) g u at h
    rw [Pi.add_apply, Finsupp.add_apply, tallyAt_apply] at h
    by_cases hx : g = cell x.1 x.2
    · exact ⟨x, List.mem_cons_self, hx⟩
    · rw [if_neg fun h' => hx h'.1, Nat.add_zero] at h
      obtain ⟨y, hy, hg⟩ := ih h
      exact ⟨y, List.mem_cons_of_mem _ hy, hg⟩

/-! ## Levels -/

def L (g : GSem nD τ sig) : Finset Unit := if g.1.2 = .tc then {()} else ∅

/-- Send cells at 0, barrier cells at 1, the receive cells of devices 1 and 3 at 2, those of device 2 at 3. -/
def lvI (c : Dev nD) : CI → ℕ
  | none => 1
  | some (_, j, _) => if j = 2 then (if c = 2 then 3 else 2) else 0
def lv (g : GSem nD τ sig) (_ : Unit) : ℕ := match idxOf g.2 with | some i => lvI g.1.1 i | none => 0

theorem lv_cell (c : Dev nD) (i : CI) : lv (cell c i) () = lvI c i := by dsimp only [lv]; rw [idxOf_semOf]
theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore below everything it still owes. -/
theorem mayWait_lt (c : Dev nD) (sm : SemLoc sig) (n : ℕ) (l : List (Dev nD × CI)) (hn : lv ((c : Thread nD τ), sm) () = n)
    (h : ∀ x ∈ l, n < lvI x.1 x.2) :
    (levAts L lv : sProp 𝕄) ⊢ MayWait (c : Thread nD τ) sm () (tal l) :=
  MayOwe.of_cut (L := L) (lev := lv) n (fun p hp => by rw [Finset.mem_singleton.mp hp, L_tc]; exact Finset.mem_singleton_self _)
    (fun g u hg => by obtain ⟨x, -, rfl⟩ := tal_pos hg; exact Finset.mem_singleton_self _)
    (fun p hp => by rw [Finset.mem_singleton.mp hp]; exact hn.le)
    (fun g u hg => by obtain ⟨x, hx, rfl⟩ := tal_pos hg; rw [show lv (cell x.1 x.2) u = _ from lv_cell x.1 x.2]; exact h x hx)

end Cert.Attn

end
-- ==== Proof.Steps.lean ====
/-
# One step of the protocol at a time

The rules the bodies of the four devices are run with: a barrier signal, a transfer of one chunk, and a wait on any of the
protocol's cells, each stated once for every device, buffer, slot and chunk; and how a buffer is held chunk by chunk.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

abbrev 𝒱₀ : Variants := Variants.none

/-! ## A buffer chunk by chunk -/

section Chunks

/-- The elements of chunk `k` of a stack of four chunks of 256 rows are those whose leading coordinate is `k`. -/
theorem mem_chunk {W : ℕ} (k : Fin 4) (inb) (i : (⟨3, ![4, 256, W]⟩ : Shape).Idx) :
    Iff (i ∈ (Rect.unit (s := ⟨3, ![4, 256, W]⟩) ![k.val, 0, 0] ![1, 256, W] inb).set) (i 0 = k) := by
  refine Rect.mem_set_unit.trans ⟨fun h => ?_, fun h a => ?_⟩
  · obtain ⟨h1, h2⟩ := h 0
    change k.val ≤ (i 0).val at h1
    change (i 0).val < k.val + 1 at h2
    exact Fin.ext (by omega)
  · match a with
    | 0 => exact ⟨by show k.val ≤ (i 0).val; rw [h], by show (i 0).val < k.val + 1; rw [h]; omega⟩
    | 1 => exact ⟨Nat.zero_le _, by have := (i 1).isLt; show (i 1).val < 0 + 256; change (i 1).val < 256 at this; omega⟩
    | 2 => exact ⟨Nat.zero_le _, by have := (i 2).isLt; show (i 2).val < 0 + W; change (i 2).val < W at this; omega⟩

theorem setOn_whole_eq (b : Ref sig .tc) (M : Finset b.ty.Idx) : (Memref.whole b).view.setOn M = M := by
  ext i
  exact View.mem_setOn (v := (Memref.whole b).view) (x := i)

/-- The codes buffer is its four chunks. -/
theorem split_d (c : Dev nD) (q : PosShare TreeShare) (f : (cc0_scratch1 : Ref sig .tc).ty.Contents (Elt F)) :
    (((c : Thread nD τ).loc cc0_scratch1 ↦{q} f) : sProp 𝕄) = bigSep Finset.univ fun k : Fin 4 => pcD (F := F) c q k f := by
  unfold pcD
  have hcov : (Finset.univ.biUnion fun k : Fin 4 => dM.view.setOn (rD k).set) = Finset.univ :=
    Finset.eq_univ_iff_forall.mpr fun i => Finset.mem_biUnion.mpr
      ⟨i 0, Finset.mem_univ _, by rw [setOn_whole_eq]; exact (mem_chunk _ _ _).mpr rfl⟩
  refine Eq.trans ?_ (pointsTo_biUnion (ℓ := (c : Thread nD τ).loc cc0_scratch1) Finset.univ (fun k : Fin 4 => dM.view.setOn (rD k).set) ?_)
  · rw [hcov]
  intro k _ k' _ hk
  rw [setOn_whole_eq, setOn_whole_eq]
  exact Finset.disjoint_left.mpr fun i hi hi' => hk (((mem_chunk _ _ _).mp hi).symm.trans ((mem_chunk _ _ _).mp hi'))

/-- The scales buffer is its four chunks. -/
theorem split_s (c : Dev nD) (q : PosShare TreeShare) (f : (cc0_scratch2 : Ref sig .tc).ty.Contents (Elt F)) :
    (((c : Thread nD τ).loc cc0_scratch2 ↦{q} f) : sProp 𝕄) = bigSep Finset.univ fun k : Fin 4 => pcS (F := F) c q k f := by
  unfold pcS
  have hcov : (Finset.univ.biUnion fun k : Fin 4 => sM.view.setOn (rS k).set) = Finset.univ :=
    Finset.eq_univ_iff_forall.mpr fun i => Finset.mem_biUnion.mpr
      ⟨i 0, Finset.mem_univ _, by rw [setOn_whole_eq]; exact (mem_chunk _ _ _).mpr rfl⟩
  refine Eq.trans ?_ (pointsTo_biUnion (ℓ := (c : Thread nD τ).loc cc0_scratch2) Finset.univ (fun k : Fin 4 => sM.view.setOn (rS k).set) ?_)
  · rw [hcov]
  intro k _ k' _ hk
  rw [setOn_whole_eq, setOn_whole_eq]
  exact Finset.disjoint_left.mpr fun i hi hi' => hk (((mem_chunk _ _ _).mp hi).symm.trans ((mem_chunk _ _ _).mp hi'))

variable (DC : Fin 4 → Vec F S1x256x1024 .i8) (SC : Fin 4 → Vec F S1x256x1 .f32)

/-- A chunk at the full share is its two halves. -/
theorem pc_halves (c : Dev nD) (b : Fin 2) (k : Fin 4) :
    pc DC SC c fullShare b k ⊣⊢ iprop(pc DC SC c (shr 0) b k ∗ pc DC SC c (shr 1) b k) := by
  unfold pc
  split
  · exact pointsTo_share (PosShare.mem_left_op_right fullShare)
  · exact pointsTo_share (PosShare.mem_left_op_right fullShare)

theorem pcAny_d (c : Dev nD) (k : Fin 4) (f) : (pcD c fullShare k f : sProp 𝕄) ⊢ pcAny (F := F) c 0 k := by
  unfold pcAny; rw [if_pos rfl]; iintro H; iexists f; iexact H
theorem pcAny_s (c : Dev nD) (k : Fin 4) (f) : (pcS c fullShare k f : sProp 𝕄) ⊢ pcAny (F := F) c 1 k := by
  unfold pcAny; rw [if_neg (by decide)]; iintro H; iexists f; iexact H

theorem anyD (c : Dev nD) (f) : ((((c : Thread nD τ).loc cc0_scratch1) ↦{fullShare} f) : sProp 𝕄) ⊢ bigSep Finset.univ fun k : Fin 4 => pcAny (F := F) c 0 k := by
  rw [split_d]; exact bigSep_mono fun k _ => pcAny_d c k f
theorem anyS (c : Dev nD) (f) : ((((c : Thread nD τ).loc cc0_scratch2) ↦{fullShare} f) : sProp 𝕄) ⊢ bigSep Finset.univ fun k : Fin 4 => pcAny (F := F) c 1 k := by
  rw [split_s]; exact bigSep_mono fun k _ => pcAny_s c k f

/-- The two buffers, each at some contents, are a landing area. -/
theorem landing_intro (c : Dev nD) :
    iprop((∃ f, ((c : Thread nD τ).loc cc0_scratch1) ↦{fullShare} f) ∗ (∃ f, ((c : Thread nD τ).loc cc0_scratch2) ↦{fullShare} f))
      ⊢ (landing (F := F) c : sProp 𝕄) := by
  unfold landing
  rw [bigSep_univ_prod, bigSep_univ_eq_bigSepL [0, 1] (by decide) (by decide)]
  rw [bigSepL_cons', bigSepL_cons', bigSepL_nil]
  iintro ⟨⟨%f, Hf⟩, ⟨%g, Hg⟩⟩
  isplitl [Hf]; · iapply (anyD c f); iexact Hf
  isplitl [Hg]; · iapply (anyS c g); iexact Hg
  iempintro

/-- All eight chunks held at the full share are the two buffers. -/
theorem landed_elim (c : Dev nD) :
    (bigSep Finset.univ fun p : Fin 2 × Fin 4 => pc DC SC c fullShare p.1 p.2)
      ⊢ iprop((((c : Thread nD τ).loc cc0_scratch1) ↦{fullShare} bufD DC) ∗ (((c : Thread nD τ).loc cc0_scratch2) ↦{fullShare} bufS SC)) := by
  rw [bigSep_univ_prod, bigSep_univ_eq_bigSepL [0, 1] (by decide) (by decide)]
  rw [bigSepL_cons', bigSepL_cons', bigSepL_nil, split_d, split_s]
  iintro ⟨Hd, Hs, -⟩
  isplitl [Hd]
  · iapply (show (bigSep Finset.univ fun k : Fin 4 => pc DC SC c fullShare 0 k) ⊢ bigSep Finset.univ fun k : Fin 4 => pcD (F := F) c fullShare k (bufD DC) from
      Entails.of_eq (bigSep_congr fun k _ => by unfold pc; rw [if_pos rfl])); iexact Hd
  · iapply (show (bigSep Finset.univ fun k : Fin 4 => pc DC SC c fullShare 1 k) ⊢ bigSep Finset.univ fun k : Fin 4 => pcS (F := F) c fullShare k (bufS SC) from
      Entails.of_eq (bigSep_congr fun k _ => by unfold pc; rw [if_neg (by decide)])); iexact Hs

/-- A transfer of what one view reads onto the same view of another device leaves it holding just that. -/
theorem landed_eq {sp : Space} {s : Shape} {e : EltTy} {κ : Kind} (v : View sig κ sp s e) (fd g : v.ty.Contents (Elt F)) :
    ∀ i ∈ v.set, v.write (Elt F) fd (v.read (Elt F) g) Finset.univ i = g i := by
  intro i hi
  obtain ⟨x, -, rfl⟩ := Finset.mem_map.mp hi
  rw [View.write_emb_of_mem _ _ (Finset.mem_univ _), View.read_apply, cast_cast, cast_eq]

end Chunks

/-! ## The protocol's ghost state of one device -/

section Ghost

variable (DC : Fin 4 → Vec F S1x256x1024 .i8) (SC : Fin 4 → Vec F S1x256x1 .f32)

theorem payI_send (c : Dev nD) (b : Fin 2) (j : Fin 3) (k d : Fin 4) (hj : j ≠ 2) :
    payI DC SC c (some (b, j, k)) d = pc DC SC c (shr j) b k := if_neg hj
theorem payI_recv (c : Dev nD) (b : Fin 2) (k d : Fin 4) : payI DC SC c (some (b, 2, k)) d = pc DC SC c fullShare b k := by
  unfold payI; exact if_pos rfl

/-- Every cell's invariant, and that every cell has reached round 0. -/
def records (K : Dev nD × CI → ℕ) : sProp 𝕄 :=
  iprop((bigSep Finset.univ fun ck : Dev nD × CI => cellInv ER (Rd DC SC) (K ck) (cell ck.1 ck.2))
    ∗ bigSep Finset.univ fun ck : Dev nD × CI => reached ER (cell ck.1 ck.2) 0)

instance records_persistent (K) : BI.Persistent (records DC SC K) := by unfold records; infer_instance

theorem records_inv (K : Dev nD × CI → ℕ) (c : Dev nD) (i : CI) :
    records DC SC K ⊢ cellInv ER (Rd DC SC) (K (c, i)) (cell c i) := by
  unfold records
  exact sep_elim_left.trans (bigSep_elim (Φ := fun ck : Dev nD × CI => (cellInv ER (Rd DC SC) (K ck) (cell ck.1 ck.2) : sProp 𝕄)) (Finset.mem_univ (c, i)))
theorem records_reached (K : Dev nD × CI → ℕ) (c : Dev nD) (i : CI) :
    records DC SC K ⊢ (reached ER (cell c i) 0 : sProp 𝕄) := by
  unfold records
  exact sep_elim_right.trans (bigSep_elim (Φ := fun ck : Dev nD × CI => (reached ER (cell ck.1 ck.2) 0 : sProp 𝕄)) (Finset.mem_univ (c, i)))

/-- The device's own cells: those in `done` waited on and closed, the others at round 0. -/
def prog (c : Dev nD) (done : Finset CI) : sProp 𝕄 :=
  bigSep Finset.univ fun i : CI => if i ∈ done then semVal (cell c i) 0 else atPos ER (cell c i) 0 ∅ 0

/-- What a cell expects in all. -/
abbrev need (c : Dev nD) (i : CI) : ℕ := (dutiesI c i).card * amountI i

/-- The credits still to be waited for, in the order of the waits. -/
def crs (c : Dev nD) (l : List CI) : sProp 𝕄 := bigSepL l fun i => cred (tallyAt (cell c i) () (need c i))

/-- The slot device `d` is sent to on. -/
abbrev slot (d : Dev nD) : Fin 3 := if d = 1 then 0 else 1

theorem slot_ne (d : Dev nD) : slot d ≠ 2 := by revert d; decide

/-- The right to one payment: its token, and for a transfer the token of the send cell as well. -/
def payTok (c : Dev nD) (x : Dev nD × CI) : sProp 𝕄 :=
  match x with
  | (d, none) => dutyTok ER (cell d none) 0 c
  | (d, some (b, j, k)) => iprop(dutyTok ER (cell d (some (b, j, k))) 0 0 ∗ dutyTok ER (cell c (some (b, slot d, k))) 0 0)

/-- What the device still owes, with the rights to pay it. -/
def plan (c : Dev nD) (l : List (Dev nD × CI)) : sProp 𝕄 :=
  iprop((∃ W, owes (c : Thread nD τ) (tal l) W) ∗ bigSepL l (payTok c))

/-- The landing chunks of the transfers still to come. -/
def perms (l : List (Dev nD × CI)) : sProp 𝕄 :=
  bigSepL l fun x => match x with
    | (_, none) => iprop(emp)
    | (d, some (b, _, k)) => pcAny (F := F) d b k

end Ghost

/-! ## The steps -/

section Steps

variable [FloatOps F] [Named F]
variable (DC : Fin 4 → Vec F S1x256x1024 .i8) (SC : Fin 4 → Vec F S1x256x1 .f32)
variable (K : Dev nD × CI → ℕ)

/-- A barrier signal pays the first payment due. -/
theorem wp_signalTo (c d n : Dev nD) (hn : n = d) (hd : c ∈ barFrom d) {sem : Sem sig} (hs : sem = barrier0) {k' : ℕ} (hk : k' = 1)
    {α : Type} {Q : α → sProp 𝕄} {k : PUnit → Prog (TpuEff nD τ sig (Elt F) Λ₀ .tc) α} (l : List (Dev nD × CI)) :
    iprop(records DC SC K ∗ plan c ((d, none) :: l) ∗ payI DC SC d none c)
      ⊢ iprop((plan c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) sem k') k) Q) := by
  subst hn; subst hs; subst hk
  unfold plan
  rw [bigSepL_cons', show payTok (F := F) c (n, none) = dutyTok ER (cell n none) 0 c from rfl]
  iintro ⟨#HR, ⟨⟨%W, HO⟩, Ht, Hl⟩, Hp⟩ Hk
  ihave #HI := (records_inv DC SC K n none) $$ HR
  ihave #Hr := (records_reached DC SC K n none) $$ HR
  iapply (Rounds.wp_signal 𝒱₀ ER (Rd DC SC) (c : Thread nD τ) none (dst := (n : Thread nD τ)) (κ := K (n, none))
      (d := c) (by rw [show (((n : Thread nD τ), SemLoc.reg barrier0) : GSem nD τ sig) = cell n none from rfl, duties_cell]; exact hd)
      (amount_cell DC SC n none c) () (tal l) rfl) $$ [HO Ht Hp]
  · isplitr; · iexact HI
    isplitl [HO]; · iexact HO
    isplitl [Ht]; · iexact Ht
    isplitl [Hp]; · iapply (Entails.of_eq (payload_cell DC SC n none c).symm); iexact Hp
    iexact Hr
  iintro HO
  iapply Hk
  isplitl [HO]; · iexists W; iexact HO
  iexact Hl

/-- A wait for everything a cell expects: the cell is closed, and what its payments hand over is received. -/
theorem wp_waitOn (c : Dev nD) (i : CI) (done : Finset CI) (hi : i ∉ done) (l : List CI) (o : List (Dev nD × CI))
    (ho : ∀ x ∈ o, lvI c i < lvI x.1 x.2)
    {w : TpuEff nD τ sig (Elt F) Λ₀ .tc PUnit} {sm : SemLoc sig} {k' : ℕ} (hsm : sm = semOf i) (hk : k' = need c i)
    (hw : ∀ K : PUnit → sProp 𝕄, wpE (defs₀ (F := F)) 𝒱₀ (c : Thread nD τ) none Set.univ w K = waitSpec (c : Thread nD τ) Set.univ sm k' K)
    {α : Type} {Q : α → sProp 𝕄} {k : PUnit → Prog (TpuEff nD τ sig (Elt F) Λ₀ .tc) α} :
    iprop(records DC SC K ∗ levAts L lv ∗ crs c (i :: l) ∗ plan c o ∗ prog c done)
      ⊢ iprop(((crs c l ∗ plan c o ∗ prog c (insert i done) ∗ bigSep (dutiesI c i) (payI DC SC c i))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hsm
  unfold plan crs
  rw [bigSepL_cons']
  iintro ⟨#HR, #Hlev, ⟨Hc, Hl⟩, ⟨⟨%W, HO⟩, Ht⟩, Hpr⟩ Hk
  ihave #HI := (records_inv DC SC K c i) $$ HR
  have hup : prog (F := F) c done ⊢ iprop((if i ∈ done then semVal (cell c i) 0 else atPos ER (cell c i) 0 ∅ 0)
      ∗ ((if i ∈ insert i done then semVal (cell c i) 0 else atPos ER (cell c i) 0 ∅ 0) -∗ prog (F := F) c (insert i done))) := by
    unfold prog
    exact bigSep_univ_update (Φ := fun i : CI => (if i ∈ done then semVal (cell c i) 0 else atPos ER (cell c i) 0 ∅ 0 : sProp 𝕄))
      (Ψ := fun j : CI => (if j ∈ insert i done then semVal (cell c j) 0 else atPos ER (cell c j) 0 ∅ 0 : sProp 𝕄)) i
      fun j hj => by
        have : (j ∈ insert i done) = (j ∈ done) := by rw [Finset.mem_insert, or_iff_right hj]
        simp only [this]
  rw [if_neg hi, if_pos (Finset.mem_insert_self i done)] at hup
  icases hup $$ Hpr with ⟨Hat, Hback⟩
  ihave #Hmay := (mayWait_lt (F := F) c (semOf i) (lvI c i) o (lv_cell c i) ho) $$ Hlev
  iapply (Rounds.wp_wait_rest_token 𝒱₀ ER (Rd DC SC) (c : Thread nD τ) none (κ := K (c, i))
      hw (Set.mem_univ _) () (O := tal o) (W := W) (R := 0) (m := 0) (T := ∅)
      (by rw [Nat.zero_add]; exact hk.trans (expect_cell DC SC c i).symm)) $$ [Hc HO Hat]
  · isplitr; · iexact HI
    isplitl [Hc]; · rw [hk]; iexact Hc
    isplitl [HO]; · iexact HO
    isplitr; · iexact Hmay
    iexact Hat
  iintro ⟨HO, Hat, -, Hpay⟩
  ihave Hpay' := (Entails.of_eq (rest_cell DC SC c i)) $$ Hpay
  imod (Rounds.cell_close ER (Rd DC SC) (Set.mem_univ (K (c, i))) (fun h => h) (R := 1) (fun r hr => duties_later DC SC (cell c i) r hr)) $$ [Hat] with Hv
  · isplitr; · iexact HI
    iexact Hat
  ihave Hpr := Hback $$ Hv
  iapply Hk
  isplitl [Hl]; · iexact Hl
  isplitl [HO Ht]
  · isplitl [HO]; · iexists _; iexact HO
    iexact Ht
  isplitl [Hpr]; · iexact Hpr
  iexact Hpay'

/-- Every expected payment received, the cells never used are closed as well: every cell stands at 0. -/
theorem prog_end (c : Dev nD) (done : Finset CI) (h : ∀ i, i ∉ done → dutiesI c i = ∅) :
    iprop(records DC SC K ∗ prog c done) ⊢ |={Set.univ}=> bigSep Finset.univ fun i : CI => (semVal (cell c i) 0 : sProp 𝕄) := by
  unfold prog
  refine (bigSep_with_persistent (Ψ := fun i : CI => iprop(|={Set.univ}=> semVal (cell c i) 0)) fun i _ => ?_).trans (bigSep_fupd _ _)
  by_cases hi : i ∈ done
  · rw [if_pos hi]
    iintro ⟨-, H⟩
    imodintro
    iexact H
  · rw [if_neg hi]
    iintro ⟨#HR, H⟩
    ihave #HI := (records_inv DC SC K c i) $$ HR
    imod (Rounds.cell_close ER (Rd DC SC) (Set.mem_univ (K (c, i))) (fun h => h) (R := 0) (fun r hr => by
      rcases Nat.eq_zero_or_pos r with rfl | hr
      · exact (duties_cell DC SC c i).trans (h i hi)
      · exact duties_later DC SC (cell c i) r hr)) $$ [H] with Hv
    · isplitr; · iexact HI
      iexact H
    imodintro
    iexact Hv

/-- The transfer of a chunk: the lent share of the source and the landing chunk go, the send cell's credit comes. -/
theorem wp_sendChunk (c d : Dev nD) (b : Fin 2) (k : Fin 4) (h₁ : 0 ∈ dutiesI c (some (b, slot d, k))) (h₁' : dutiesI c (some (b, slot d, k)) = {0})
    (h₂ : 0 ∈ dutiesI d (some (b, 2, k)))
    {s : Shape} {e : EltTy} (m : Memref sig .tc .vmem s e) (f₀ : m.view.ty.Contents (Elt F))
    (hpc : ∀ (c : Dev nD) q, pc DC SC c q b k = (m.view.loc (c : Thread nD τ) ↦[m.view.set]{q} f₀ : sProp 𝕄))
    (hany : ∀ c : Dev nD, pcAny (F := F) c b k = iprop(∃ f, m.view.loc (c : Thread nD τ) ↦[m.view.set]{fullShare} f))
    (hN : m.view.amount (.dma (dmaOf b 2 k)) = amt b)
    {hsc : (m : Memref sig (Dev.tc d : Thread nD τ).2.kind .vmem s e).view.ref.isScScratch = false}
    {hsrc hdst : m.view.WordExact}
    {hsem : DmaTarget.Typed .vmem (.dma (dmaOf b 2 k)) (.remote (Dev.tc d : Thread nD τ) (m : Memref sig (Dev.tc d : Thread nD τ).2.kind .vmem s e) (.dma (dmaOf b (slot d) k)) hsc)}
    {α : Type} {Q : α → sProp 𝕄} {kk : PUnit → Prog (TpuEff nD τ sig (Elt F) Λ₀ .tc) α} (l : List (Dev nD × CI)) (sent : List CI) :
    iprop(records DC SC K ∗ pc DC SC c (shr (slot d)) b k ∗ perms ((d, some (b, 2, k)) :: l) ∗ plan c ((d, some (b, 2, k)) :: l) ∗ crs c sent)
      ⊢ iprop(((perms l ∗ plan c l ∗ crs c (sent ++ [some (b, slot d, k)]))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma m (.remote (Dev.tc d : Thread nD τ) m (.dma (dmaOf b (slot d) k)) hsc) (.dma (dmaOf b 2 k)) hsrc hdst hsem) kk) Q) := by
  have hj : ¬ (slot d = 2) := slot_ne d
  unfold plan perms crs
  rw [bigSepL_cons', bigSepL_cons', bigSepL_append, bigSepL_cons', bigSepL_nil]
  simp only [payTok]
  rw [hany, hpc]
  iintro ⟨#HR, Hsrc, ⟨⟨%fd, Hdst⟩, Hpl⟩, ⟨⟨%W, HO⟩, ⟨Ht2, Ht1⟩, Hl⟩, Hcr⟩ Hk
  ihave #HI1 := (records_inv DC SC K c (some (b, slot d, k))) $$ HR
  ihave #HI2 := (records_inv DC SC K d (some (b, 2, k))) $$ HR
  ihave #Hr1 := (records_reached DC SC K c (some (b, slot d, k))) $$ HR
  ihave #Hr2 := (records_reached DC SC K d (some (b, 2, k))) $$ HR
  iapply (Rounds.wp_send_pointsTo 𝒱₀ ER (Rd DC SC) (c : Thread nD τ) none (κ₁ := K (c, some (b, slot d, k))) (κ₂ := K (d, some (b, 2, k)))
    (r₁ := 0) (r₂ := 0) (d₁ := 0) (d₂ := 0) (fd := fd)
    (by rw [show (((c : Thread nD τ), SemLoc.dma (dmaOf b (slot d) k)) : GSem nD τ sig) = cell c (some (b, slot d, k)) from rfl, duties_cell]; exact h₁)
    (by rw [show (((d : Thread nD τ), SemLoc.dma (dmaOf b 2 k)) : GSem nD τ sig) = cell d (some (b, 2, k)) from rfl, duties_cell]; exact h₂)
    () () (amt b) hN (amount_cell DC SC c (some (b, slot d, k)) 0) (amount_cell DC SC d (some (b, 2, k)) 0) (tal l) rfl (W := W)
    (by
      refine Entails.of_eq (Eq.trans ?_ (payload_cell DC SC c (some (b, slot d, k)) 0).symm)
      rw [payI_send DC SC c b _ k 0 hj, hpc])
    (by
      refine Entails.of_eq (Eq.trans ?_ (payload_cell DC SC d (some (b, 2, k)) 0).symm)
      rw [payI_recv, hpc]
      exact pointsTo_congr (landed_eq m.view fd f₀))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [Hpl]; · iexact Hpl
  isplitl [HO Hl]
  · isplitl [HO]; · iexists W; iexact HO
    iexact Hl
  isplitl [Hcr]; · iexact Hcr
  isplitl [Hc]
  · rw [show need c (some (b, slot d, k)) = amt b by unfold need; rw [h₁', Finset.card_singleton, Nat.one_mul]; rfl]
    iexact Hc
  · iempintro

end Steps

end Cert.Attn

end
-- ==== Proof.Moves.lean ====
/-
# Loads, stores and transfers of a chunk

The rules of `Steps` at the kernel's own operations: the transfer of a chunk of the codes and of the scales, a load of a
received chunk, and the output buffer filled chunk by chunk.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The output buffer -/

abbrev oM : Memref sig .tc .vmem S1x1024x1024 .f32 := Memref.whole cc0_stg5_0

theorem inbO (k : Fin 4) : ∀ a, (![0, 256 * k.val, 0] : Fin 3 → ℕ) a + S1x256x1024.size a ≤ S1x1024x1024.size a := by
  revert k; decide
/-- The rows of chunk `k` in the output. -/
abbrev rO (k : Fin 4) : Rect S1x1024x1024 := Rect.unit (s := S1x1024x1024) ![0, 256 * k.val, 0] S1x256x1024.size (inbO k)

set_option backward.proofsInPublic true in
/-- The output whose rows of chunk `k` are `O k`. -/
def outBuf {α : Type} (O : Fin 4 → S1x256x1024.Idx → α) (i : S1x1024x1024.Idx) : α :=
  O ⟨(i 1).val / 256, by have := (i 1).isLt; change (i 1).val < 1024 at this; omega⟩
    (fun | 0 => ⟨0, Nat.one_pos⟩ | 1 => ⟨(i 1).val % 256, Nat.mod_lt _ (by decide)⟩ | 2 => i 2)

/-- Two output contents with the same four chunks are equal. -/
theorem out_ext (f : (cc0_stg5_0 : Ref sig .tc).ty.Contents (Elt F)) (O : Fin 4 → Vec F S1x256x1024 .f32)
    (h : ∀ k : Fin 4, oM.view.readAt (Elt F) (rO k).toLoadRect f = O k) : f = outBuf O := by
  funext i
  unfold outBuf
  rw [← h]
  show f i = f _
  congr 1
  have h1 : (i 0).val < 1 := (i 0).isLt
  funext a
  match a with
  | 0 => exact Fin.ext (by show (i 0).val = 0 + 1 * 0; omega)
  | 1 => exact Fin.ext (by show (i 1).val = 256 * ((i 1).val / 256) + 1 * ((i 1).val % 256); omega)
  | 2 => exact Fin.ext (by show (i 2).val = 0 + 1 * (i 2).val; omega)

/-- Device `c`'s output buffer with its first `n` chunks already `O`. -/
def outUpTo (c : Dev nD) (O : Fin 4 → Vec F S1x256x1024 .f32) (n : ℕ) : sProp 𝕄 :=
  iprop(∃ f : (cc0_stg5_0 : Ref sig .tc).ty.Contents (Elt F),
    ⌜∀ k : Fin 4, k.val < n → oM.view.readAt (Elt F) (rO k).toLoadRect f = O k⌝ ∗ (((c : Thread nD τ).loc cc0_stg5_0) ↦{fullShare} f))

theorem outUpTo_zero (c : Dev nD) (O : Fin 4 → Vec F S1x256x1024 .f32) (f) :
    ((((c : Thread nD τ).loc cc0_stg5_0) ↦{fullShare} f) : sProp 𝕄) ⊢ outUpTo c O 0 := by
  unfold outUpTo
  iintro H
  iexists f
  isplitr
  · ipureintro; exact fun k hk => absurd hk (Nat.not_lt_zero _)
  · iexact H

theorem outUpTo_four (c : Dev nD) (O : Fin 4 → Vec F S1x256x1024 .f32) :
    outUpTo c O 4 ⊢ ((((c : Thread nD τ).loc cc0_stg5_0) ↦{fullShare} outBuf O) : sProp 𝕄) := by
  unfold outUpTo
  iintro ⟨%f, %h, H⟩
  rw [out_ext f O fun k => h k k.isLt]
  iexact H

/-- The rows of a chunk are not those of another. -/
theorem rO_off (k k' : Fin 4) (hk : k ≠ k') (x : (rO k').shape.Idx) : (rO k').idx x ∉ (rO k).set := by
  intro h
  obtain ⟨h1, h2⟩ := Rect.mem_set_unit.mp h 1
  have hx := (x 1).isLt
  change (x 1).val < 256 at hx
  change 256 * k.val ≤ 256 * k'.val + 1 * (x 1).val at h1
  change 256 * k'.val + 1 * (x 1).val < 256 * k.val + 256 at h2
  exact hk (Fin.ext (by omega))

/-- A rectangle just written reads what was written. -/
theorem readAt_write_same {κ : Kind} {sp : Space} {s : Shape} {e : EltTy} (v : View sig κ sp s e) (r : Rect s) (f : v.ty.Contents (Elt F))
    (w : r.shape.Idx → Elt F e) : v.readAt (Elt F) r.toLoadRect ((v.slice r).write (Elt F) f w Finset.univ) = w := by
  rw [View.readAt_rect]; exact View.read_write_univ (v := v.slice r) f w

/-- A rectangle reads as before after a write to another one. -/
theorem readAt_write_other {κ : Kind} {sp : Space} {s : Shape} {e : EltTy} (v : View sig κ sp s e) (r r' : Rect s)
    (h : ∀ x, r'.idx x ∉ r.set) (f : v.ty.Contents (Elt F)) (w : r.shape.Idx → Elt F e) :
    v.readAt (Elt F) r'.toLoadRect ((v.slice r).write (Elt F) f w Finset.univ) = v.readAt (Elt F) r'.toLoadRect f := by
  refine View.readAt_congr (v := v) fun i hi => View.write_of_not_mem _ _ _ fun hm => ?_
  rw [View.setOn_univ, View.set_slice] at hm
  obtain ⟨y, hy, rfl⟩ := Finset.mem_map.mp hi
  obtain ⟨x, rfl⟩ := r'.exists_idx_of_mem hy
  exact h x ((View.mem_setOn _).mp hm)

section Rules

variable [FloatOps F] [Named F]
variable (DC : Fin 4 → Vec F S1x256x1024 .i8) (SC : Fin 4 → Vec F S1x256x1 .f32)
variable (K : Dev nD × CI → ℕ)

/-- A load of the output's chunk whose value is not used. -/
theorem wp_loadOut (c : Dev nD) (O : Fin 4 → Vec F S1x256x1024 .f32) (n : ℕ) {r : LoadRect S1x1024x1024} {hl : oM.view.LoadsAt r}
    {α : Type} {Q : α → sProp 𝕄} {kk : Prog (TpuEff nD τ sig (Elt F) Λ₀ .tc) α} :
    outUpTo c O n ⊢ iprop((outUpTo c O n -∗ wp frame (wpE (defs₀ (F := F)) 𝒱₀ (c : Thread nD τ) none) Set.univ kk Q)
      -∗ wp frame (wpE (defs₀ (F := F)) 𝒱₀ (c : Thread nD τ) none) Set.univ (.op (.load oM r hl) fun _ => kk) Q) := by
  unfold outUpTo
  iintro ⟨%f, %h, H⟩ Hk
  iapply (wp_load 𝒱₀ (c : Thread nD τ) none Set.univ (m := oM) (Finset.subset_univ _)) $$ H
  iintro H
  iapply Hk
  iexists f
  isplitr; · ipureintro; exact h
  iexact H

/-- The store of the next chunk of the output. -/
theorem wp_storeOut (c : Dev nD) (O : Fin 4 → Vec F S1x256x1024 .f32) (k : Fin 4) (n : ℕ) (hn : n = k.val) {w : Vec F S1x256x1024 .f32} (hw : w = O k)
    {hx : (oM.access (rO k)).Stores Finset.univ} {hm : (Finset.univ : Finset (rO k).shape.Idx) = Finset.univ ∨ ∀ a, (rO k).stride a = 1}
    {α : Type} {Q : α → sProp 𝕄} {kk : Prog (TpuEff nD τ sig (Elt F) Λ₀ .tc) α} :
    outUpTo c O n ⊢ iprop((outUpTo c O (n + 1) -∗ wp frame (wpE (defs₀ (F := F)) 𝒱₀ (c : Thread nD τ) none) Set.univ kk Q)
      -∗ wp frame (wpE (defs₀ (F := F)) 𝒱₀ (c : Thread nD τ) none) Set.univ (.op (.store oM (rO k) w Finset.univ hx hm) fun _ => kk) Q) := by
  subst hn
  unfold outUpTo
  iintro ⟨%f, %h, H⟩ Hk
  iapply (wp_store 𝒱₀ (c : Thread nD τ) none Set.univ (m := oM) (r := rO k) (Mk := Finset.univ) (Finset.subset_univ _)) $$ H
  iintro H
  iapply Hk
  iexists _
  isplitr
  rotate_left
  · iexact H
  · ipureintro
    intro k' hk'
    by_cases e : k' = k
    · subst e
      exact (readAt_write_same oM.view (rO k') f w).trans hw
    · exact (readAt_write_other oM.view (rO k) (rO k') (fun x => rO_off k k' (fun e' => e e'.symm) x) f w).trans
        (h k' (by have : k'.val ≠ k.val := fun he => e (Fin.ext he); omega))

/-! ## A received chunk -/

/-- A load of a chunk of the codes, at any share. -/
theorem wp_loadD (c : Dev nD) (q) (k : Fin 4) {hl : dM.view.LoadsAt (rD k).toLoadRect}
    {α : Type} {Q : α → sProp 𝕄} {kk : Vec F S1x256x1024 .i8 → Prog (TpuEff nD τ sig (Elt F) Λ₀ .tc) α} :
    pc DC SC c q 0 k ⊢ iprop((pc DC SC c q 0 k -∗ wp frame (wpE (defs₀ (F := F)) 𝒱₀ (c : Thread nD τ) none) Set.univ (kk (DC k)) Q)
      -∗ wp frame (wpE (defs₀ (F := F)) 𝒱₀ (c : Thread nD τ) none) Set.univ (.op (.load dM (rD k).toLoadRect hl) kk) Q) := by
  rw [show pc DC SC c q 0 k = pcD c q k (bufD DC) from if_pos rfl]
  unfold pcD
  iintro H Hk
  iapply (wp_load 𝒱₀ (c : Thread nD τ) none Set.univ (m := dM) (r := (rD k).toLoadRect) (Finset.Subset.refl _)) $$ H
  rw [readAt_bufD]
  iexact Hk

/-- A load of a chunk of the scales, at any share. -/
theorem wp_loadS (c : Dev nD) (q) (k : Fin 4) {hl : sM.view.LoadsAt (rS k).toLoadRect}
    {α : Type} {Q : α → sProp 𝕄} {kk : Vec F S1x256x1 .f32 → Prog (TpuEff nD τ sig (Elt F) Λ₀ .tc) α} :
    pc DC SC c q 1 k ⊢ iprop((pc DC SC c q 1 k -∗ wp frame (wpE (defs₀ (F := F)) 𝒱₀ (c : Thread nD τ) none) Set.univ (kk (SC k)) Q)
      -∗ wp frame (wpE (defs₀ (F := F)) 𝒱₀ (c : Thread nD τ) none) Set.univ (.op (.load sM (rS k).toLoadRect hl) kk) Q) := by
  rw [show pc DC SC c q 1 k = pcS c q k (bufS SC) from if_neg (by decide)]
  unfold pcS
  iintro H Hk
  iapply (wp_load 𝒱₀ (c : Thread nD τ) none Set.univ (m := sM) (r := (rS k).toLoadRect) (Finset.Subset.refl _)) $$ H
  rw [readAt_bufS]
  iexact Hk

/-! ## Waits and transfers as the kernel prints them -/

theorem payI_chunk (c : Dev nD) (b : Fin 2) (j : Fin 3) (k d : Fin 4) :
    payI DC SC c (some (b, j, k)) d = pc DC SC c (if j = 2 then fullShare else shr j) b k := by
  by_cases h : j = 2
  · subst h; rw [payI_recv, if_pos rfl]
  · rw [payI_send DC SC c b j k d h, if_neg h]

/-- A wait on a receive cell or a send cell of a chunk, by one of the printed waits on it. -/
theorem wp_waitChunk (c : Dev nD) (b : Fin 2) (j : Fin 3) (k : Fin 4) (done : Finset CI) (hi : some (b, j, k) ∉ done) (l : List CI)
    (o : List (Dev nD × CI)) (ho : ∀ x ∈ o, lvI c (some (b, j, k)) < lvI x.1 x.2) (hd : dutiesI c (some (b, j, k)) = {0})
    {sem : DmaSem sig} {sp sp' : Space} {s s' : Shape} {e e' : EltTy} {src : Memref sig .tc sp' s' e'} {dst : Memref sig .tc sp s e}
    {hsrc : src.view.WordExact} {hdst : dst.view.WordExact} (hsem : sem = dmaOf b j k) (ha : dst.view.dmaCredit = amt b)
    {α : Type} {Q : α → sProp 𝕄} {kk : PUnit → Prog (TpuEff nD τ sig (Elt F) Λ₀ .tc) α} :
    iprop(records DC SC K ∗ levAts L lv ∗ crs c (some (b, j, k) :: l) ∗ plan c o ∗ prog c done)
      ⊢ iprop(((crs c l ∗ plan c o ∗ prog c (insert (some (b, j, k)) done) ∗ pc DC SC c (if j = 2 then fullShare else shr j) b k)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hsrc hdst) kk) Q) := by
  have h := wp_waitOn DC SC K c (some (b, j, k)) done hi l o ho (w := .waitDma2 sem src dst hsrc hdst) (sm := .dma sem)
    (k' := dst.view.dmaCredit) (Q := Q) (k := kk) (by rw [hsem])
    (by rw [ha]; unfold need; rw [hd, Finset.card_singleton, Nat.one_mul]; rfl)
    (wpE_waitDma2_eq 𝒱₀ (c : Thread nD τ) none Set.univ)
  rw [hd, bigSep_singleton, show payI DC SC c (some (b, j, k)) 0 = pc DC SC c (if j = 2 then fullShare else shr j) b k from
    payI_chunk DC SC c b j k 0] at h
  exact h

/-- The transfer of a chunk of the codes, as printed. -/
theorem wp_sendD (c d n : Dev nD) (hn : n = d) (k : Fin 4) (h₁ : dutiesI c (some (0, slot d, k)) = {0})
    (h₂ : dutiesI d (some (0, 2, k)) = {0}) {src : Memref sig .tc .vmem S256x1024 .i8} {dst : Memref sig (Dev.tc n : Thread nD τ).2.kind .vmem S256x1024 .i8}
    (hs : src = dC k) (ht : dst = dC k) {s₁ s₂ : DmaSem sig} (hs₁ : s₁ = dmaOf 0 (slot d) k) (hs₂ : s₂ = dmaOf 0 2 k)
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {Q : α → sProp 𝕄} {kk : PUnit → Prog (TpuEff nD τ sig (Elt F) Λ₀ .tc) α} (l : List (Dev nD × CI)) (sent : List CI) :
    iprop(records DC SC K ∗ pc DC SC c (shr (slot d)) 0 k ∗ perms ((d, some (0, 2, k)) :: l) ∗ plan c ((d, some (0, 2, k)) :: l) ∗ crs c sent)
      ⊢ iprop(((perms l ∗ plan c l ∗ crs c (sent ++ [some (0, slot d, k)]))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma s₁) hsc) (.dma s₂) hsrc hdst hsem) kk) Q) := by
  subst hn; subst hs; subst ht; subst hs₁; subst hs₂
  exact wp_sendChunk DC SC K c n 0 k (by rw [h₁]; exact Finset.mem_singleton_self _) h₁ (by rw [h₂]; exact Finset.mem_singleton_self _)
    (dC k) (bufD DC) (fun c q => by unfold pc pcD; rw [if_pos rfl, dC_set]) (fun c => by unfold pcAny pcD; rw [if_pos rfl, dC_set]) (amt_d k) l sent

/-- The transfer of a chunk of the scales, as printed. -/
theorem wp_sendS (c d n : Dev nD) (hn : n = d) (k : Fin 4) (h₁ : dutiesI c (some (1, slot d, k)) = {0})
    (h₂ : dutiesI d (some (1, 2, k)) = {0}) {src : Memref sig .tc .vmem S256x1 .f32} {dst : Memref sig (Dev.tc n : Thread nD τ).2.kind .vmem S256x1 .f32}
    (hs : src = sC k) (ht : dst = sC k) {s₁ s₂ : DmaSem sig} (hs₁ : s₁ = dmaOf 1 (slot d) k) (hs₂ : s₂ = dmaOf 1 2 k)
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {Q : α → sProp 𝕄} {kk : PUnit → Prog (TpuEff nD τ sig (Elt F) Λ₀ .tc) α} (l : List (Dev nD × CI)) (sent : List CI) :
    iprop(records DC SC K ∗ pc DC SC c (shr (slot d)) 1 k ∗ perms ((d, some (1, 2, k)) :: l) ∗ plan c ((d, some (1, 2, k)) :: l) ∗ crs c sent)
      ⊢ iprop(((perms l ∗ plan c l ∗ crs c (sent ++ [some (1, slot d, k)]))
          -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (Dev.tc n : Thread nD τ) dst (.dma s₁) hsc) (.dma s₂) hsrc hdst hsem) kk) Q) := by
  subst hn; subst hs; subst ht; subst hs₁; subst hs₂
  exact wp_sendChunk DC SC K c n 1 k (by rw [h₁]; exact Finset.mem_singleton_self _) h₁ (by rw [h₂]; exact Finset.mem_singleton_self _)
    (sC k) (bufS SC) (fun c q => by unfold pc pcS; rw [if_neg (by decide), sC_set]) (fun c => by unfold pcAny pcS; rw [if_neg (by decide), sC_set]) (amt_s k) l sent

end Rules

end Cert.Attn

end
-- ==== Proof.Receive.lean ====
/-
# A chunk received

What devices 1 to 3 do with a chunk: two waits, two loads, and a store of codes times scales into the output.
-/
module

public import proofs.«01_k».proof.Proof.Moves

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- What devices 1 to 3 write as chunk `k` of the output: the received codes times the received scales. -/
def deq [FloatOps F] [Named F] (DC : Fin 4 → Vec F S1x256x1024 .i8) (SC : Fin 4 → Vec F S1x256x1 .f32) (k : Fin 4) : Vec F S1x256x1024 .f32 :=
  k0_pay165 (k0_pay164 (DC k) (SC k))

section Receive

variable (DC : Fin 4 → Vec F S1x256x1024 .i8) (SC : Fin 4 → Vec F S1x256x1 .f32)

/-- The chunks of both buffers held by `c` at the full share. -/
def got (c : Dev nD) (ks : List (Fin 4)) : sProp 𝕄 := bigSepL ks fun k => iprop(pc DC SC c fullShare 0 k ∗ pc DC SC c fullShare 1 k)

theorem got_nil (c : Dev nD) : ⊢ (got DC SC c [] : sProp 𝕄) := by unfold got; rw [bigSepL_nil]; iempintro

/-- All four chunks of both buffers are the two whole buffers. -/
theorem got_all (c : Dev nD) : got DC SC c [3, 2, 1, 0]
    ⊢ iprop((((c : Thread nD τ).loc cc0_scratch1) ↦{fullShare} bufD DC) ∗ (((c : Thread nD τ).loc cc0_scratch2) ↦{fullShare} bufS SC)) := by
  unfold got
  rw [← bigSep_univ_eq_bigSepL [3, 2, 1, 0] (by decide) (by decide), bigSep_sep', split_d, split_s]
  iintro ⟨H0, H1⟩
  isplitl [H0]
  · iapply (show (bigSep Finset.univ fun k : Fin 4 => pc DC SC c fullShare 0 k) ⊢ _ from
      Entails.of_eq (bigSep_congr fun k _ => by unfold pc; rw [if_pos rfl])); iexact H0
  · iapply (show (bigSep Finset.univ fun k : Fin 4 => pc DC SC c fullShare 1 k) ⊢ _ from
      Entails.of_eq (bigSep_congr fun k _ => by unfold pc; rw [if_neg (by decide)])); iexact H1

/-- What a receiving device has still to wait for from chunk `k` on. -/
abbrev recvs : List CI := [0, 1, 2, 3].flatMap fun k : Fin 4 => [some (0, 2, k), some (1, 2, k)]

variable [FloatOps F] [Named F]
variable (K : Dev nD × CI → ℕ)

/-- The two waits for a chunk. -/
theorem wp_recvChunk (c : Dev nD) (hc : c ≠ 0) (k : Fin 4) (done : Finset CI) (hi₀ : some (0, 2, k) ∉ done) (hi₁ : some (1, 2, k) ∉ insert (some (0, 2, k)) done)
    (l : List CI) (o : List (Dev nD × CI)) (ho : ∀ x ∈ o, lvI c (some (0, 2, k)) < lvI x.1 x.2)
    {s₀ s₁ : DmaSem sig} {src₀ dst₀ : Memref sig .tc .vmem S256x1024 .i8} {src₁ dst₁ : Memref sig .tc .vmem S256x1 .f32}
    {h₀ : src₀.view.WordExact} {h₀' : dst₀.view.WordExact} {h₁ : src₁.view.WordExact} {h₁' : dst₁.view.WordExact}
    (hs₀ : s₀ = dmaOf 0 2 k) (hs₁ : s₁ = dmaOf 1 2 k) (ha₀ : dst₀ = dC k) (ha₁ : dst₁ = sC k)
    {α : Type} {Q : α → sProp 𝕄} {kk : Prog (TpuEff nD τ sig (Elt F) Λ₀ .tc) α} :
    iprop(records DC SC K ∗ levAts L lv ∗ crs c (some (0, 2, k) :: some (1, 2, k) :: l) ∗ plan c o ∗ prog c done)
      ⊢ iprop(((crs c l ∗ plan c o ∗ prog c (insert (some (1, 2, k)) (insert (some (0, 2, k)) done))
            ∗ pc DC SC c fullShare 0 k ∗ pc DC SC c fullShare 1 k)
          -∗ wp frame (wpE (defs₀ (F := F)) 𝒱₀ (c : Thread nD τ) none) Set.univ kk Q)
        -∗ wp frame (wpE (defs₀ (F := F)) 𝒱₀ (c : Thread nD τ) none) Set.univ
            (.op (.waitDma2 s₀ src₀ dst₀ h₀ h₀') fun _ => .op (.waitDma2 s₁ src₁ dst₁ h₁ h₁') fun _ => kk) Q) := by
  iintro ⟨#HR, #Hlev, Hc, Hp, Hg⟩ Hk
  iapply (wp_waitChunk DC SC K c 0 2 k done hi₀ (some (1, 2, k) :: l) o ho (if_neg hc) hs₀ (by rw [ha₀, amt_d])) $$ [Hc Hp Hg]
  · isplitr; · iexact HR
    isplitr; · iexact Hlev
    isplitl [Hc]; · iexact Hc
    isplitl [Hp]; · iexact Hp
    iexact Hg
  iintro ⟨Hc, Hp, Hg, H0⟩
  iapply (wp_waitChunk DC SC K c 1 2 k _ hi₁ l o ho (if_neg hc) hs₁ (by rw [ha₁, amt_s])) $$ [Hc Hp Hg]
  · isplitr; · iexact HR
    isplitr; · iexact Hlev
    isplitl [Hc]; · iexact Hc
    isplitl [Hp]; · iexact Hp
    iexact Hg
  iintro ⟨Hc, Hp, Hg, H1⟩
  iapply Hk
  isplitl [Hc]; · iexact Hc
  isplitl [Hp]; · iexact Hp
  isplitl [Hg]; · iexact Hg
  isplitl [H0]; · iexact H0
  iexact H1

/-- Device 2 or 3 between two chunks: `ks` received, the first `n` written. -/
def recvSt (c : Dev nD) (l : List CI) (done : Finset CI) (ks : List (Fin 4)) (n : ℕ) : sProp 𝕄 :=
  iprop(crs c l ∗ plan c [] ∗ prog c done ∗ got DC SC c ks ∗ outUpTo c (deq DC SC) n)

/-- Receiving a chunk and reading it. -/
theorem wp_take (c : Dev nD) (hc : c ≠ 0) (k : Fin 4) (done : Finset CI) (hi₀ : some (0, 2, k) ∉ done) (hi₁ : some (1, 2, k) ∉ insert (some (0, 2, k)) done)
    (l : List CI) (ks : List (Fin 4)) (n : ℕ)
    {s₀ s₁ : DmaSem sig} {src₀ dst₀ : Memref sig .tc .vmem S256x1024 .i8} {src₁ dst₁ : Memref sig .tc .vmem S256x1 .f32}
    {h₀ : src₀.view.WordExact} {h₀' : dst₀.view.WordExact} {h₁ : src₁.view.WordExact} {h₁' : dst₁.view.WordExact}
    {hl₀ : dM.view.LoadsAt (rD k).toLoadRect} {hl₁ : sM.view.LoadsAt (rS k).toLoadRect}
    (hs₀ : s₀ = dmaOf 0 2 k) (hs₁ : s₁ = dmaOf 1 2 k) (ha₀ : dst₀ = dC k) (ha₁ : dst₁ = sC k)
    {α : Type} {Q : α → sProp 𝕄} {kk : Vec F S1x256x1024 .i8 → Vec F S1x256x1 .f32 → Prog (TpuEff nD τ sig (Elt F) Λ₀ .tc) α} :
    iprop(records DC SC K ∗ levAts L lv ∗ recvSt DC SC c (some (0, 2, k) :: some (1, 2, k) :: l) done ks n)
      ⊢ iprop((recvSt DC SC c l (insert (some (1, 2, k)) (insert (some (0, 2, k)) done)) (k :: ks) n
          -∗ wp frame (wpE (defs₀ (F := F)) 𝒱₀ (c : Thread nD τ) none) Set.univ (kk (DC k) (SC k)) Q)
        -∗ wp frame (wpE (defs₀ (F := F)) 𝒱₀ (c : Thread nD τ) none) Set.univ
            (.op (.waitDma2 s₀ src₀ dst₀ h₀ h₀') fun _ => .op (.waitDma2 s₁ src₁ dst₁ h₁ h₁') fun _ =>
              .op (.load dM (rD k).toLoadRect hl₀) fun v => .op (.load sM (rS k).toLoadRect hl₁) fun u => kk v u) Q) := by
  unfold recvSt got
  rw [bigSepL_cons']
  iintro ⟨#HR, #Hlev, Hc, Hp, Hg, Hks, Ho⟩ Hk
  iapply (wp_recvChunk DC SC K c hc k done hi₀ hi₁ l [] (fun _ h => absurd h List.not_mem_nil) hs₀ hs₁ ha₀ ha₁) $$ [Hc Hp Hg]
  · isplitr; · iexact HR
    isplitr; · iexact Hlev
    isplitl [Hc]; · iexact Hc
    isplitl [Hp]; · iexact Hp
    iexact Hg
  iintro ⟨Hc, Hp, Hg, H0, H1⟩
  iapply (wp_loadD DC SC c fullShare k) $$ H0
  iintro H0
  iapply (wp_loadS DC SC c fullShare k) $$ H1
  iintro H1
  iapply Hk
  isplitl [Hc]; · iexact Hc
  isplitl [Hp]; · iexact Hp
  isplitl [Hg]; · iexact Hg
  isplitr [Ho]
  · isplitr [Hks]
    · isplitl [H0]; · iexact H0
      iexact H1
    · iexact Hks
  iexact Ho

/-- The barrier cell and the receive cells of the chunks before `k`, closed. -/
def doneRecv : ℕ → Finset CI
  | 0 => {none}
  | k + 1 => insert (some (1, 2, Fin.ofNat 4 k)) (insert (some (0, 2, Fin.ofNat 4 k)) (doneRecv k))

end Receive

end Cert.Attn

end
-- ==== Proof.Receivers.lean ====
/-
# Devices 2 and 3

Their bodies, part by part: they signal the sender that their landing buffers are ready, wait for it, and write each chunk
received, dequantised.
-/
module

public import proofs.«01_k».proof.Proof.Receive

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable [FloatOps F] [Named F]
variable (DC : Fin 4 → Vec F S1x256x1024 .i8) (SC : Fin 4 → Vec F S1x256x1 .f32)
variable (K : Dev nD × CI → ℕ)

section Parts

variable (c : Dev nD) (hc : c ≠ 0)
include hc

/-- The first chunk received. -/
theorem part52 {Q : FVec F S256x1024 .f32 → sProp 𝕄} :
    iprop(records DC SC K ∗ levAts L lv ∗ recvSt DC SC c (recvs.drop 0) (doneRecv 0) [] 0)
      ⊢ iprop((recvSt DC SC c (recvs.drop 2) (doneRecv 1) [0] 0 -∗ Q (k0_pay164 (DC 0) (SC 0)))
        -∗ wp frame (wpE (defs₀ (F := F)) 𝒱₀ (c : Thread nD τ) none) Set.univ (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 ) Q) := by
  rw [k0_part52_eq_skeleton]
  unfold k0_part52_skel
  simp only [Prog.lift, Prog.bind_op, Prog.bind_ret, Prog.pure_eq_ret]
  iintro ⟨#HR, #Hlev, H⟩ Hk
  iapply (wp_take DC SC K c hc 0 (doneRecv 0) (by decide) (by decide) (recvs.drop 2) [] 0 rfl rfl rfl rfl) $$ [H]
  · isplitr; · iexact HR
    isplitr; · iexact Hlev
    iexact H
  iintro H
  unfold recvSt
  icases H with ⟨Hc, Hp, Hg, Hks, Ho⟩
  iapply (wp_loadOut c (deq DC SC) 0) $$ Ho
  iintro Ho
  rw [wp_ret]; imodintro
  iapply Hk
  isplitl [Hc]; · iexact Hc
  isplitl [Hp]; · iexact Hp
  isplitl [Hg]; · iexact Hg
  isplitl [Hks]; · iexact Hks
  iexact Ho

/-- The first chunk written, the second received. -/
theorem part53 {Q : FVec F S256x1024 .f32 → sProp 𝕄} :
    iprop(records DC SC K ∗ levAts L lv ∗ recvSt DC SC c (recvs.drop 2) (doneRecv 1) [0] 0)
      ⊢ iprop((recvSt DC SC c (recvs.drop 4) (doneRecv 2) [1, 0] 1 -∗ Q (k0_pay166 (DC 1) (SC 1)))
        -∗ wp frame (wpE (defs₀ (F := F)) 𝒱₀ (c : Thread nD τ) none) Set.univ (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 (k0_pay164 (DC 0) (SC 0))) Q) := by
  rw [k0_part53_eq_skeleton]
  unfold k0_part53_skel
  simp only [Prog.lift, Prog.bind_op, Prog.bind_ret, Prog.pure_eq_ret]
  iintro ⟨#HR, #Hlev, H⟩ Hk
  unfold recvSt
  icases H with ⟨Hc, Hp, Hg, Hks, Ho⟩
  iapply (wp_storeOut c (deq DC SC) 0 0 rfl (rfl : _ = deq DC SC 0)) $$ Ho
  iintro Ho
  ihave H : iprop(recvSt DC SC c (recvs.drop 2) (doneRecv 1) [0] 1) $$ [Hc Hp Hg Hks Ho]
  · unfold recvSt
    isplitl [Hc]; · iexact Hc
    isplitl [Hp]; · iexact Hp
    isplitl [Hg]; · iexact Hg
    isplitl [Hks]; · iexact Hks
    iexact Ho
  iapply (wp_take DC SC K c hc 1 (doneRecv 1) (by decide) (by decide) (recvs.drop 4) [0] 1 rfl rfl rfl rfl) $$ [H]
  · isplitr; · iexact HR
    isplitr; · iexact Hlev
    iexact H
  iintro H
  rw [wp_ret]; imodintro
  iapply Hk; unfold recvSt; iexact H

/-- The second written, the third received. -/
theorem part54 {Q : FVec F S256x1024 .f32 → sProp 𝕄} :
    iprop(records DC SC K ∗ levAts L lv ∗ recvSt DC SC c (recvs.drop 4) (doneRecv 2) [1, 0] 1)
      ⊢ iprop((recvSt DC SC c (recvs.drop 6) (doneRecv 3) [2, 1, 0] 2 -∗ Q (k0_pay168 (DC 2) (SC 2)))
        -∗ wp frame (wpE (defs₀ (F := F)) 𝒱₀ (c : Thread nD τ) none) Set.univ (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 (k0_pay166 (DC 1) (SC 1))) Q) := by
  rw [k0_part54_eq_skeleton]
  unfold k0_part54_skel
  simp only [Prog.lift, Prog.bind_op, Prog.bind_ret, Prog.pure_eq_ret]
  iintro ⟨#HR, #Hlev, H⟩ Hk
  unfold recvSt
  icases H with ⟨Hc, Hp, Hg, Hks, Ho⟩
  iapply (wp_loadOut c (deq DC SC) 1) $$ Ho
  iintro Ho
  iapply (wp_storeOut c (deq DC SC) 1 1 rfl (rfl : _ = deq DC SC 1)) $$ Ho
  iintro Ho
  ihave H : iprop(recvSt DC SC c (recvs.drop 4) (doneRecv 2) [1, 0] 2) $$ [Hc Hp Hg Hks Ho]
  · unfold recvSt
    isplitl [Hc]; · iexact Hc
    isplitl [Hp]; · iexact Hp
    isplitl [Hg]; · iexact Hg
    isplitl [Hks]; · iexact Hks
    iexact Ho
  iapply (wp_take DC SC K c hc 2 (doneRecv 2) (by decide) (by decide) (recvs.drop 6) [1, 0] 2 rfl rfl rfl rfl) $$ [H]
  · isplitr; · iexact HR
    isplitr; · iexact Hlev
    iexact H
  iintro H
  rw [wp_ret]; imodintro
  iapply Hk; unfold recvSt; iexact H

/-- The third written, the fourth received. -/
theorem part55 {Q : (Σ' _ : FVec F S256x1024 .f32, FVec F S256x1024 .f32) → sProp 𝕄} :
    iprop(records DC SC K ∗ levAts L lv ∗ recvSt DC SC c (recvs.drop 6) (doneRecv 3) [2, 1, 0] 2)
      ⊢ iprop((recvSt DC SC c (recvs.drop 8) (doneRecv 4) [3, 2, 1, 0] 3 -∗ Q ((⟨k0_pay170 (DC 3), k0_pay171 (SC 3)⟩ : Σ' _ : FVec F S256x1024 .f32, FVec F S256x1024 .f32)))
        -∗ wp frame (wpE (defs₀ (F := F)) 𝒱₀ (c : Thread nD τ) none) Set.univ (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 (k0_pay168 (DC 2) (SC 2))) Q) := by
  rw [k0_part55_eq_skeleton]
  unfold k0_part55_skel
  simp only [Prog.lift, Prog.bind_op, Prog.bind_ret, Prog.pure_eq_ret]
  iintro ⟨#HR, #Hlev, H⟩ Hk
  unfold recvSt
  icases H with ⟨Hc, Hp, Hg, Hks, Ho⟩
  iapply (wp_loadOut c (deq DC SC) 2) $$ Ho
  iintro Ho
  iapply (wp_storeOut c (deq DC SC) 2 2 rfl (rfl : _ = deq DC SC 2)) $$ Ho
  iintro Ho
  ihave H : iprop(recvSt DC SC c (recvs.drop 6) (doneRecv 3) [2, 1, 0] 3) $$ [Hc Hp Hg Hks Ho]
  · unfold recvSt
    isplitl [Hc]; · iexact Hc
    isplitl [Hp]; · iexact Hp
    isplitl [Hg]; · iexact Hg
    isplitl [Hks]; · iexact Hks
    iexact Ho
  iapply (wp_take DC SC K c hc 3 (doneRecv 3) (by decide) (by decide) (recvs.drop 8) [2, 1, 0] 3 rfl rfl rfl rfl) $$ [H]
  · isplitr; · iexact HR
    isplitr; · iexact Hlev
    iexact H
  iintro H
  rw [wp_ret]; imodintro
  iapply Hk; unfold recvSt; iexact H

end Parts

end Cert.Attn

end
-- ==== Proof.BodyTwo.lean ====
/-
# The bodies of devices 2 and 3
-/
module

public import proofs.«01_k».proof.Proof.Receivers

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable [FloatOps F] [Named F]
variable (DC : Fin 4 → Vec F S1x256x1024 .i8) (SC : Fin 4 → Vec F S1x256x1 .f32)
variable (K : Dev nD × CI → ℕ)

/-- The kernel's body on its staging slots and scratch buffers. -/
abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6

/-- The three scratch buffers, whatever they hold. -/
def scratch (c : Dev nD) : sProp 𝕄 :=
  iprop((∃ f, (((c : Thread nD τ).loc cc0_scratch0) ↦{fullShare} f)) ∗ (∃ f, (((c : Thread nD τ).loc cc0_scratch1) ↦{fullShare} f))
    ∗ (∃ f, (((c : Thread nD τ).loc cc0_scratch2) ↦{fullShare} f)))

/-- What device `c`'s body leaves: its cells closed, nothing owed, and `O` in the output's staging slot. -/
def bodyOut (c : Dev nD) (O : Fin 4 → Vec F S1x256x1024 .f32) : sProp 𝕄 :=
  iprop((bigSep Finset.univ fun i : CI => semVal (cell c i) 0) ∗ plan c [] ∗ scratch c
    ∗ (((c : Thread nD τ).loc cc0_stg5_0) ↦{fullShare} outBuf O))

/-- What the body needs of the protocol. -/
def bodyIn (c : Dev nD) : sProp 𝕄 :=
  iprop(prog c ∅ ∗ plan c (pays c) ∗ crs c (none :: if c = 0 then [] else recvs) ∗ scratch c
    ∗ (∃ f, (((c : Thread nD τ).loc cc0_stg5_0) ↦{fullShare} f)))

/-- One signal and one wait for one: the barrier on device 2 and on device 3. -/
theorem wp_meet (c d n : Dev nD) (hn : n = d) (hd : c ∈ barFrom d) (hl : lends d c = true) (hneed : need c none = 1) (he : dutiesI c none = {d}) (hl' : lends c d = false)
    {α : Type} {Q : α → sProp 𝕄} {kk : Prog (TpuEff nD τ sig (Elt F) Λ₀ .tc) α} (l : List CI) :
    iprop(records DC SC K ∗ levAts L lv ∗ prog c ∅ ∗ plan c [(d, none)] ∗ crs c (none :: l)
        ∗ (∃ f, (((c : Thread nD τ).loc cc0_scratch1) ↦{fullShare} f)) ∗ (∃ f, (((c : Thread nD τ).loc cc0_scratch2) ↦{fullShare} f)))
      ⊢ iprop(((prog c {none} ∗ plan c [] ∗ crs c l)
          -∗ wp frame (wpE (defs₀ (F := F)) 𝒱₀ (c : Thread nD τ) none) Set.univ kk Q)
        -∗ wp frame (wpE (defs₀ (F := F)) 𝒱₀ (c : Thread nD τ) none) Set.univ
            (.op (.semSignal (n : Thread nD τ) barrier0 (1#32).toNat) fun _ => .op (.semWait barrier0 (1#32).toNat) fun _ => kk) Q) := by
  iintro ⟨#HR, #Hlev, Hg, Hp, Hc, H1, H2⟩ Hk
  ihave Hl := (landing_intro c) $$ [H1 H2]
  · isplitl [H1]; · iexact H1
    iexact H2
  iapply (wp_signalTo DC SC K c d n hn hd rfl rfl []) $$ [Hp Hl]
  · isplitr; · iexact HR
    isplitl [Hp]; · iexact Hp
    unfold payI
    rw [if_pos hl]
    iexact Hl
  iintro Hp
  iapply (wp_waitOn DC SC K c none ∅ (Finset.notMem_empty _) l [] (fun _ h => absurd h List.not_mem_nil) rfl (by rw [hneed]; rfl)
    (wpE_semWait_eq 𝒱₀ (c : Thread nD τ) none Set.univ)) $$ [Hp Hg Hc]
  · isplitr; · iexact HR
    isplitr; · iexact Hlev
    isplitl [Hc]; · iexact Hc
    isplitl [Hp]; · iexact Hp
    iexact Hg
  iintro ⟨Hc, Hp, Hg, _⟩
  iapply Hk
  isplitl [Hg]; · iexact Hg
  isplitl [Hp]; · iexact Hp
  iexact Hc

/-- Device 2's or 3's body after its barrier. -/
theorem wp_receiver (c : Dev nD) (hc : c ≠ 0) (h : ∀ i ∉ doneRecv 4, dutiesI c i = ∅)
    {hl : oM.view.LoadsAt (rO 3).toLoadRect} {hx : (oM.access (rO 3)).Stores Finset.univ} {hm : (Finset.univ : Finset (rO 3).shape.Idx) = Finset.univ ∨ ∀ a, (rO 3).stride a = 1} :
    iprop(records DC SC K ∗ levAts L lv ∗ (prog c {none} ∗ plan c [] ∗ crs c recvs)
        ∗ (∃ f, (((c : Thread nD τ).loc cc0_scratch0) ↦{fullShare} f)) ∗ (∃ f, (((c : Thread nD τ).loc cc0_stg5_0) ↦{fullShare} f)))
      ⊢ wp frame (wpE (defs₀ (F := F)) 𝒱₀ (c : Thread nD τ) none) Set.univ
          ((k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 >>= fun v49 => k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 v49 >>= fun v75 => k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 v75 >>= fun v101 =>
            k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 v101 >>= fun x =>
              .op (.load oM (rO 3).toLoadRect hl) fun _ => .op (.store oM (rO 3) (k0_pay1 x.1 x.2) Finset.univ hx hm) fun _ => .ret ⟨⟩ : Prog (TpuEff nD τ sig (Elt F) Λ₀ .tc) PUnit))
          fun _ => bodyOut c (deq DC SC) := by
  simp only [wp_bind]
  iintro ⟨#HR, #Hlev, ⟨Hg, Hp, Hc⟩, H0, ⟨%fo, Ho⟩⟩
  iapply (part52 DC SC K c hc) $$ [Hg Hp Hc Ho]
  · isplitr; · iexact HR
    isplitr; · iexact Hlev
    unfold recvSt
    isplitl [Hc]; · iexact Hc
    isplitl [Hp]; · iexact Hp
    isplitl [Hg]; · iexact Hg
    isplitr
    · iapply got_nil DC SC c
    iapply (outUpTo_zero c (deq DC SC)) $$ Ho
  iintro H
  iapply (part53 DC SC K c hc) $$ [H]
  · isplitr; · iexact HR
    isplitr; · iexact Hlev
    iexact H
  iintro H
  iapply (part54 DC SC K c hc) $$ [H]
  · isplitr; · iexact HR
    isplitr; · iexact Hlev
    iexact H
  iintro H
  iapply (part55 DC SC K c hc) $$ [H]
  · isplitr; · iexact HR
    isplitr; · iexact Hlev
    iexact H
  iintro H
  unfold recvSt
  icases H with ⟨Hc, Hp, Hg, Hks, Ho⟩
  iapply (wp_loadOut c (deq DC SC) 3) $$ Ho
  iintro Ho
  iapply (wp_storeOut c (deq DC SC) 3 3 rfl (rfl : _ = deq DC SC 3)) $$ Ho
  iintro Ho
  rw [wp_ret]
  imod (prog_end DC SC K c (doneRecv 4) h) $$ [Hg] with Hs
  · isplitr; · iexact HR
    iexact Hg
  imodintro
  ihave Hks := (got_all DC SC c) $$ Hks
  icases Hks with ⟨H1, H2⟩
  unfold bodyOut scratch
  isplitl [Hs]; · iexact Hs
  isplitl [Hp]; · iexact Hp
  isplitr [Ho]
  · isplitl [H0]; · iexact H0
    isplitl [H1]
    · iexists _; iexact H1
    · iexists _; iexact H2
  iapply (outUpTo_four c (deq DC SC)) $$ Ho

/-- Device 2's body. -/
theorem body_two : iprop(records DC SC K ∗ levAts L lv ∗ bodyIn (F := F) 2)
    ⊢ wp frame (wpE (defs₀ (F := F)) 𝒱₀ ((2 : Dev nD) : Thread nD τ) none) Set.univ (theBody (F := F)) (fun _ => bodyOut 2 (deq DC SC)) := by
  have h1 : ¬ k0_cond1 (2 : Dev nD) = 1#1 := by decide
  have h2 : ¬ k0_cond2 (2 : Dev nD) = 1#1 := by decide
  have h3 :  k0_cond3 (2 : Dev nD) = 1#1 := by decide
  have h4 : ¬ k0_cond4 (2 : Dev nD) = 1#1 := by decide
  have h5 : ¬ k0_cond5 (2 : Dev nD) = 1#1 := by decide
  have h6 : ¬ k0_cond6 (2 : Dev nD) = 1#1 := by decide
  unfold bodyIn scratch
  unfold theBody
  simp only [cc0_body_eq_skeleton]
  unfold cc0_body_skel
  simp only [semSignalWord, semWaitWord, Prog.lift, Prog.bind_op, Prog.bind_ret, Prog.pure_eq_ret, wp_deviceId, dif_neg h1, dif_neg h2, dif_pos h3, dif_neg h4, dif_neg h5, dif_neg h6]
  iintro ⟨#HR, #Hlev, Hg, Hp, Hc, ⟨H0, H1, H2⟩, Ho⟩
  iapply (wp_meet DC SC K 2 1 _ (Fin.ext k0_dev5_eq) (by decide) (by decide) (by decide) (by decide) (by decide)) $$ [Hg Hp Hc H1 H2]
  · isplitr; · iexact HR
    isplitr; · iexact Hlev
    isplitl [Hg]; · iexact Hg
    isplitl [Hp]; · iexact Hp
    isplitl [Hc]; · iexact Hc
    isplitl [H1]; · iexact H1
    iexact H2
  iintro H
  rw [dif_pos (by decide)]
  iapply (wp_receiver DC SC K 2 (by decide) (by decide))
  isplitr; · iexact HR
  isplitr; · iexact Hlev
  isplitl [H]; · iexact H
  isplitl [H0]; · iexact H0
  iexact Ho

/-- Device 3's body. -/
theorem body_three : iprop(records DC SC K ∗ levAts L lv ∗ bodyIn (F := F) 3)
    ⊢ wp frame (wpE (defs₀ (F := F)) 𝒱₀ ((3 : Dev nD) : Thread nD τ) none) Set.univ (theBody (F := F)) (fun _ => bodyOut 3 (deq DC SC)) := by
  have h1 : ¬ k0_cond1 (3 : Dev nD) = 1#1 := by decide
  have h2 : ¬ k0_cond2 (3 : Dev nD) = 1#1 := by decide
  have h3 : ¬ k0_cond3 (3 : Dev nD) = 1#1 := by decide
  have h4 :  k0_cond4 (3 : Dev nD) = 1#1 := by decide
  have h5 : ¬ k0_cond5 (3 : Dev nD) = 1#1 := by decide
  have h6 : ¬ k0_cond6 (3 : Dev nD) = 1#1 := by decide
  unfold bodyIn scratch
  unfold theBody
  simp only [cc0_body_eq_skeleton]
  unfold cc0_body_skel
  simp only [semSignalWord, semWaitWord, Prog.lift, Prog.bind_op, Prog.bind_ret, Prog.pure_eq_ret, wp_deviceId, dif_neg h1, dif_neg h2, dif_neg h3, dif_pos h4, dif_neg h5, dif_neg h6]
  iintro ⟨#HR, #Hlev, Hg, Hp, Hc, ⟨H0, H1, H2⟩, Ho⟩
  iapply (wp_meet DC SC K 3 0 _ (Fin.ext k0_dev6_eq) (by decide) (by decide) (by decide) (by decide) (by decide)) $$ [Hg Hp Hc H1 H2]
  · isplitr; · iexact HR
    isplitr; · iexact Hlev
    isplitl [Hg]; · iexact Hg
    isplitl [Hp]; · iexact Hp
    isplitl [Hc]; · iexact Hc
    isplitl [H1]; · iexact H1
    iexact H2
  iintro H
  rw [dif_pos (by decide)]
  iapply (wp_receiver DC SC K 3 (by decide) (by decide))
  isplitr; · iexact HR
  isplitr; · iexact Hlev
  isplitl [H]; · iexact H
  isplitl [H0]; · iexact H0
  iexact Ho

end Cert.Attn

end
-- ==== Proof.Relay.lean ====
/-
# Device 1: a chunk passed on

Device 1 waits for a chunk, sends it on to device 2 lending half of it, reads its own half, and writes the chunk
dequantised; at the end it waits for its transfers and has the lent halves back.
-/
module

public import proofs.«01_k».proof.Proof.Receive

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable [FloatOps F] [Named F]
variable (DC : Fin 4 → Vec F S1x256x1024 .i8) (SC : Fin 4 → Vec F S1x256x1 .f32)
variable (K : Dev nD × CI → ℕ)

/-- Chunks of both buffers held at one share. -/
def held (c : Dev nD) (q : PosShare TreeShare) (ks : List (Fin 4)) : sProp 𝕄 :=
  bigSepL ks fun k => iprop(pc DC SC c q 0 k ∗ pc DC SC c q 1 k)

theorem held_nil (c : Dev nD) (q) : ⊢ (held DC SC c q [] : sProp 𝕄) := by unfold held; rw [bigSepL_nil]; iempintro

/-- The two halves of the chunks make the chunks. -/
theorem held_join (c : Dev nD) (ks : List (Fin 4)) :
    iprop(held DC SC c (shr 0) ks ∗ held DC SC c (shr 1) ks) ⊢ got DC SC c ks := by
  unfold held got
  induction ks with
  | nil => rw [bigSepL_nil, bigSepL_nil]; iintro _; iempintro
  | cons k ks ih =>
    rw [bigSepL_cons', bigSepL_cons', bigSepL_cons']
    iintro ⟨⟨⟨A, B⟩, H⟩, ⟨⟨A', B'⟩, H'⟩⟩
    isplitl [A A' B B']
    · isplitl [A A']
      · iapply (pc_halves DC SC c 0 k).2
        isplitl [A]; · iexact A
        iexact A'
      · iapply (pc_halves DC SC c 1 k).2
        isplitl [B]; · iexact B
        iexact B'
    · iapply ih
      isplitl [H]; · iexact H
      iexact H'

/-- Device 1 between two chunks: `o` its transfers to come, `ks` the chunks it has passed on, whose kept halves it holds, `n` written. -/
def relaySt (c : Dev nD) (l : List CI) (o : List (Dev nD × CI)) (done : Finset CI) (ks : List (Fin 4)) (n : ℕ) : sProp 𝕄 :=
  iprop(crs c l ∗ plan c o ∗ perms o ∗ prog c done ∗ held DC SC c (shr 0) ks ∗ outUpTo c (deq DC SC) n)

/-- One chunk on the relaying device: two waits, two transfers to `d`, the loads, and the store of the chunk dequantised. -/
theorem wp_pass (c d n n' : Dev nD) (hc : c ≠ 0) (hn : n = d) (hn' : n' = d) (hsl : slot d = 1) (k : Fin 4) (m : ℕ) (hmk : m = k.val)
    (done : Finset CI) (hi₀ : some (0, 2, k) ∉ done) (hi₁ : some (1, 2, k) ∉ insert (some (0, 2, k)) done)
    (l : List CI) (o : List (Dev nD × CI)) (ho : ∀ x ∈ (d, some (0, 2, k)) :: (d, some (1, 2, k)) :: o, lvI c (some (0, 2, k)) < lvI x.1 x.2) (ks : List (Fin 4))
    (g₁ : dutiesI c (some (0, slot d, k)) = {0}) (h₂ : dutiesI d (some (0, 2, k)) = {0})
    (h₃ : dutiesI c (some (1, slot d, k)) = {0}) (h₄ : dutiesI d (some (1, 2, k)) = {0})
    {s₀ s₁ t₀ t₀' t₁ t₁' : DmaSem sig} {src₀ dst₀ : Memref sig .tc .vmem S256x1024 .i8} {src₁ dst₁ : Memref sig .tc .vmem S256x1 .f32}
    {h₀ : src₀.view.WordExact} {h₀' : dst₀.view.WordExact} {h₁ : src₁.view.WordExact} {h₁' : dst₁.view.WordExact}
    {a₀ : Memref sig .tc .vmem S256x1024 .i8} {b₀ : Memref sig (Dev.tc n : Thread nD τ).2.kind .vmem S256x1024 .i8}
    {a₁ : Memref sig .tc .vmem S256x1 .f32} {b₁ : Memref sig (Dev.tc n' : Thread nD τ).2.kind .vmem S256x1 .f32}
    {e₀ e₀' e₀'' w₀} {e₁ e₁' e₁'' w₁}
    {hl₀ : dM.view.LoadsAt (rD k).toLoadRect} {hl₁ : sM.view.LoadsAt (rS k).toLoadRect} {r : LoadRect S1x1024x1024} {hl : oM.view.LoadsAt r}
    {hx : (oM.access (rO k)).Stores Finset.univ} {hm : (Finset.univ : Finset (rO k).shape.Idx) = Finset.univ ∨ ∀ a, (rO k).stride a = 1}
    (hs₀ : s₀ = dmaOf 0 2 k) (hs₁ : s₁ = dmaOf 1 2 k) (ha₀ : dst₀ = dC k) (ha₁ : dst₁ = sC k)
    (hA₀ : a₀ = dC k) (hB₀ : b₀ = dC k) (hA₁ : a₁ = sC k) (hB₁ : b₁ = sC k)
    (ht₀ : t₀ = dmaOf 0 (slot d) k) (ht₀' : t₀' = dmaOf 0 2 k) (ht₁ : t₁ = dmaOf 1 (slot d) k) (ht₁' : t₁' = dmaOf 1 2 k)
    {α : Type} {Q : α → sProp 𝕄} {pay : Vec F S1x256x1024 .i8 → Vec F S1x256x1 .f32 → Vec F S1x256x1024 .f32}
    (hpay : pay (DC k) (SC k) = deq DC SC k)
    {kk : Prog (TpuEff nD τ sig (Elt F) Λ₀ .tc) α} :
    iprop(records DC SC K ∗ levAts L lv ∗ relaySt DC SC c (some (0, 2, k) :: some (1, 2, k) :: l) ((d, some (0, 2, k)) :: (d, some (1, 2, k)) :: o) done ks m)
      ⊢ iprop((relaySt DC SC c ((l ++ [some (0, slot d, k)]) ++ [some (1, slot d, k)]) o (insert (some (1, 2, k)) (insert (some (0, 2, k)) done)) (k :: ks) (m + 1)
          -∗ wp frame (wpE (defs₀ (F := F)) 𝒱₀ (c : Thread nD τ) none) Set.univ kk Q)
        -∗ wp frame (wpE (defs₀ (F := F)) 𝒱₀ (c : Thread nD τ) none) Set.univ
            (.op (.waitDma2 s₀ src₀ dst₀ h₀ h₀') fun _ => .op (.waitDma2 s₁ src₁ dst₁ h₁ h₁') fun _ =>
              .op (.enqueueDma a₀ (.remote (Dev.tc n : Thread nD τ) b₀ (.dma t₀) e₀) (.dma t₀') e₀' e₀'' w₀) fun _ =>
              .op (.enqueueDma a₁ (.remote (Dev.tc n' : Thread nD τ) b₁ (.dma t₁) e₁) (.dma t₁') e₁' e₁'' w₁) fun _ =>
              .op (.load dM (rD k).toLoadRect hl₀) fun v => .op (.load sM (rS k).toLoadRect hl₁) fun u =>
              .op (.load oM r hl) fun _ => .op (.store oM (rO k) (pay v u) Finset.univ hx hm) fun _ => kk) Q) := by
  unfold relaySt held
  rw [bigSepL_cons']
  iintro ⟨#HR, #Hlev, Hc, Hp, Hm, Hg, Hks, Ho⟩ Hk
  iapply (wp_recvChunk DC SC K c hc k done hi₀ hi₁ l _ ho hs₀ hs₁ ha₀ ha₁) $$ [Hc Hp Hg]
  · isplitr; · iexact HR
    isplitr; · iexact Hlev
    isplitl [Hc]; · iexact Hc
    isplitl [Hp]; · iexact Hp
    iexact Hg
  iintro ⟨Hc, Hp, Hg, H0, H1⟩
  ihave H0 := (pc_halves DC SC c 0 k).1 $$ H0
  ihave H1 := (pc_halves DC SC c 1 k).1 $$ H1
  icases H0 with ⟨H0, G0⟩
  icases H1 with ⟨H1, G1⟩
  iapply (wp_sendD DC SC K c d n hn k g₁ h₂ hA₀ hB₀ ht₀ ht₀' ((d, some (1, 2, k)) :: o) l) $$ [G0 Hm Hp Hc]
  · isplitr; · iexact HR
    isplitl [G0]; · rw [hsl]; iexact G0
    isplitl [Hm]; · iexact Hm
    isplitl [Hp]; · iexact Hp
    iexact Hc
  iintro ⟨Hm, Hp, Hc⟩
  iapply (wp_sendS DC SC K c d n' hn' k h₃ h₄ hA₁ hB₁ ht₁ ht₁' o _) $$ [G1 Hm Hp Hc]
  · isplitr; · iexact HR
    isplitl [G1]; · rw [hsl]; iexact G1
    isplitl [Hm]; · iexact Hm
    isplitl [Hp]; · iexact Hp
    iexact Hc
  iintro ⟨Hm, Hp, Hc⟩
  iapply (wp_loadD DC SC c (shr 0) k) $$ H0
  iintro H0
  iapply (wp_loadS DC SC c (shr 0) k) $$ H1
  iintro H1
  iapply (wp_loadOut c (deq DC SC) m) $$ Ho
  iintro Ho
  iapply (wp_storeOut c (deq DC SC) k m hmk hpay) $$ Ho
  iintro Ho
  iapply Hk
  isplitl [Hc]; · iexact Hc
  isplitl [Hp]; · iexact Hp
  isplitl [Hm]; · iexact Hm
  isplitl [Hg]; · iexact Hg
  isplitl [H0 H1 Hks]
  · isplitr [Hks]
    · isplitl [H0]; · iexact H0
      iexact H1
    · iexact Hks
  iexact Ho

/-- The waits for a chunk's two transfers of device 1: the lent halves come back. -/
def backSt (c : Dev nD) (l : List CI) (done : Finset CI) (ks : List (Fin 4)) : sProp 𝕄 :=
  iprop(crs c l ∗ plan c [] ∗ prog c done ∗ held DC SC c (shr 1) ks)

theorem wp_back (c : Dev nD) (k : Fin 4) (done : Finset CI) (hi₀ : some (0, 1, k) ∉ done) (hi₁ : some (1, 1, k) ∉ insert (some (0, 1, k)) done)
    (l : List CI) (ks : List (Fin 4)) (hd₀ : dutiesI c (some (0, 1, k)) = {0}) (hd₁ : dutiesI c (some (1, 1, k)) = {0})
    {s₀ s₁ : DmaSem sig} {src₀ dst₀ : Memref sig .tc .vmem S256x1024 .i8} {src₁ dst₁ : Memref sig .tc .vmem S256x1 .f32}
    {h₀ : src₀.view.WordExact} {h₀' : dst₀.view.WordExact} {h₁ : src₁.view.WordExact} {h₁' : dst₁.view.WordExact}
    (hs₀ : s₀ = dmaOf 0 1 k) (hs₁ : s₁ = dmaOf 1 1 k) (ha₀ : dst₀ = dC k) (ha₁ : dst₁ = sC k)
    {α : Type} {Q : α → sProp 𝕄} {kk : Prog (TpuEff nD τ sig (Elt F) Λ₀ .tc) α} :
    iprop(records DC SC K ∗ levAts L lv ∗ backSt DC SC c (some (0, 1, k) :: some (1, 1, k) :: l) done ks)
      ⊢ iprop((backSt DC SC c l (insert (some (1, 1, k)) (insert (some (0, 1, k)) done)) (k :: ks)
          -∗ wp frame (wpE (defs₀ (F := F)) 𝒱₀ (c : Thread nD τ) none) Set.univ kk Q)
        -∗ wp frame (wpE (defs₀ (F := F)) 𝒱₀ (c : Thread nD τ) none) Set.univ
            (.op (.waitDma2 s₀ src₀ dst₀ h₀ h₀') fun _ => .op (.waitDma2 s₁ src₁ dst₁ h₁ h₁') fun _ => kk) Q) := by
  unfold backSt held
  rw [bigSepL_cons']
  iintro ⟨#HR, #Hlev, Hc, Hp, Hg, Hks⟩ Hk
  iapply (wp_waitChunk DC SC K c 0 1 k done hi₀ (some (1, 1, k) :: l) [] (fun _ h => absurd h List.not_mem_nil) hd₀ hs₀ (by rw [ha₀, amt_d])) $$ [Hc Hp Hg]
  · isplitr; · iexact HR
    isplitr; · iexact Hlev
    isplitl [Hc]; · iexact Hc
    isplitl [Hp]; · iexact Hp
    iexact Hg
  iintro ⟨Hc, Hp, Hg, H0⟩
  iapply (wp_waitChunk DC SC K c 1 1 k _ hi₁ l [] (fun _ h => absurd h List.not_mem_nil) hd₁ hs₁ (by rw [ha₁, amt_s])) $$ [Hc Hp Hg]
  · isplitr; · iexact HR
    isplitr; · iexact Hlev
    isplitl [Hc]; · iexact Hc
    isplitl [Hp]; · iexact Hp
    iexact Hg
  iintro ⟨Hc, Hp, Hg, H1⟩
  iapply Hk
  isplitl [Hc]; · iexact Hc
  isplitl [Hp]; · iexact Hp
  isplitl [Hg]; · iexact Hg
  isplitr [Hks]
  · isplitl [H0]; · iexact H0
    iexact H1
  · iexact Hks

end Cert.Attn

end
-- ==== Proof.BodyOne.lean ====
/-
# The body of device 1
-/
module

public import proofs.«01_k».proof.Proof.Relay
public import proofs.«01_k».proof.Proof.BodyTwo

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable [FloatOps F] [Named F]
variable (DC : Fin 4 → Vec F S1x256x1024 .i8) (SC : Fin 4 → Vec F S1x256x1 .f32)
variable (K : Dev nD × CI → ℕ)

/-- The sixteen transfers' landing places on one device, in the order device 1 sends. -/
abbrev places (d : Dev nD) : List (Dev nD × CI) :=
  ([(0, 0), (1, 0), (0, 1), (1, 1), (0, 2), (1, 2), (0, 3), (1, 3)] : List (Fin 2 × Fin 4)).map fun p => (d, some (p.1, 2, p.2))

/-- A device's landing buffers are the landing places of the transfers to it. -/
theorem perms_landing (d : Dev nD) : (landing d : sProp 𝕄) ⊢ perms (F := F) (places d) := by
  unfold landing perms places
  rw [bigSep_univ_eq_bigSepL [(0, 0), (1, 0), (0, 1), (1, 1), (0, 2), (1, 2), (0, 3), (1, 3)] (by decide) (by decide), bigSepL_map]

/-- What device 1's barrier hands over. -/
theorem pay_one : (bigSep (dutiesI 1 none) (payI DC SC 1 none) : sProp 𝕄) ⊢ landing 2 := by
  have e : dutiesI 1 none = insert (2 : Fin 4) {0} := by decide
  rw [e, bigSep_insert (by decide), bigSep_singleton]
  have e2 : (payI DC SC 1 none 2 : sProp 𝕄) = landing 2 := by unfold payI; rw [if_pos (by decide)]
  rw [e2]
  show iprop(landing 2 ∗ payI DC SC 1 none 0) ⊢ _
  iintro ⟨H, _⟩
  iexact H

/-- The send cells of device 1 closed by the waits for the chunks before `k`. -/
def doneBack : ℕ → Finset CI
  | 0 => doneRecv 4
  | k + 1 => insert (some (1, 1, Fin.ofNat 4 k)) (insert (some (0, 1, Fin.ofNat 4 k)) (doneBack k))

/-- Device 1's barrier: it lends its landing buffers to device 0, and is lent device 2's. -/
theorem barrier_one {α : Type} {Q : α → sProp 𝕄} {kk : Prog (TpuEff nD τ sig (Elt F) Λ₀ .tc) α} (n n' : Dev nD) (hn : n = 0) (hn' : n' = 2) (l : List CI) :
    iprop(records DC SC K ∗ levAts L lv ∗ prog 1 ∅ ∗ plan 1 (pays 1) ∗ crs 1 (none :: l)
        ∗ (∃ f, (((1 : Dev nD) : Thread nD τ).loc cc0_scratch1 ↦{fullShare} f)) ∗ (∃ f, (((1 : Dev nD) : Thread nD τ).loc cc0_scratch2 ↦{fullShare} f)))
      ⊢ iprop(((prog 1 {none} ∗ plan 1 (sendsOf 1) ∗ perms (sendsOf 1) ∗ crs 1 l)
          -∗ wp frame (wpE (defs₀ (F := F)) 𝒱₀ ((1 : Dev nD) : Thread nD τ) none) Set.univ kk Q)
        -∗ wp frame (wpE (defs₀ (F := F)) 𝒱₀ ((1 : Dev nD) : Thread nD τ) none) Set.univ
            (.op (.semSignal (n : Thread nD τ) barrier0 (1#32).toNat) fun _ => .op (.semSignal (n' : Thread nD τ) barrier0 (1#32).toNat) fun _ =>
              .op (.semWait barrier0 (2#32).toNat) fun _ => kk) Q) := by
  iintro ⟨#HR, #Hlev, Hg, Hp, Hc, H1, H2⟩ Hk
  ihave Hl := (landing_intro 1) $$ [H1 H2]
  · isplitl [H1]; · iexact H1
    iexact H2
  iapply (wp_signalTo DC SC K 1 0 n hn (by decide) rfl rfl ((2, none) :: sendsOf 1)) $$ [Hp Hl]
  · isplitr; · iexact HR
    isplitl [Hp]; · iexact Hp
    unfold payI
    rw [if_pos (by decide)]
    iexact Hl
  iintro Hp
  iapply (wp_signalTo DC SC K 1 2 n' hn' (by decide) rfl rfl (sendsOf 1)) $$ [Hp]
  · isplitr; · iexact HR
    isplitl [Hp]; · iexact Hp
    unfold payI
    rw [if_neg (by decide)]
    iempintro
  iintro Hp
  iapply (wp_waitOn DC SC K 1 none ∅ (Finset.notMem_empty _) l (sendsOf 1) (by decide) rfl (by decide)
    (wpE_semWait_eq 𝒱₀ ((1 : Dev nD) : Thread nD τ) none Set.univ)) $$ [Hp Hg Hc]
  · isplitr; · iexact HR
    isplitr; · iexact Hlev
    isplitl [Hc]; · iexact Hc
    isplitl [Hp]; · iexact Hp
    iexact Hg
  iintro ⟨Hc, Hp, Hg, Hpay⟩
  iapply Hk
  isplitl [Hg]; · iexact Hg
  isplitl [Hp]; · iexact Hp
  isplitl [Hpay]
  · ihave Hpay := (pay_one DC SC) $$ Hpay
    iapply (perms_landing 2) $$ Hpay
  iexact Hc

set_option maxHeartbeats 1000000 in
/-- Device 1's body. -/
theorem body_one : iprop(records DC SC K ∗ levAts L lv ∗ bodyIn (F := F) 1)
    ⊢ wp frame (wpE (defs₀ (F := F)) 𝒱₀ ((1 : Dev nD) : Thread nD τ) none) Set.univ (theBody (F := F)) (fun _ => bodyOut 1 (deq DC SC)) := by
  have h1 : ¬ k0_cond1 (1 : Dev nD) = 1#1 := by decide
  have h2 : k0_cond2 (1 : Dev nD) = 1#1 := by decide
  have h3 : ¬ k0_cond3 (1 : Dev nD) = 1#1 := by decide
  have h4 : ¬ k0_cond4 (1 : Dev nD) = 1#1 := by decide
  have h5 : ¬ k0_cond5 (1 : Dev nD) = 1#1 := by decide
  have h6 : k0_cond6 (1 : Dev nD) = 1#1 := by decide
  unfold bodyIn scratch
  unfold theBody
  simp only [cc0_body_eq_skeleton]
  unfold cc0_body_skel
  simp only [semSignalWord, semWaitWord, Prog.lift, Prog.bind_op, Prog.bind_ret, Prog.pure_eq_ret, wp_deviceId, dif_neg h1, dif_pos h2, dif_neg h3, dif_neg h4, dif_neg h5, dif_pos h6]
  iintro ⟨#HR, #Hlev, Hg, Hp, Hc, ⟨H0, H1, H2⟩, ⟨%fo, Ho⟩⟩
  iapply (barrier_one DC SC K _ _ (Fin.ext k0_dev3_eq) (Fin.ext k0_dev4_eq)) $$ [Hg Hp Hc H1 H2]
  · isplitr; · iexact HR
    isplitr; · iexact Hlev
    isplitl [Hg]; · iexact Hg
    isplitl [Hp]; · iexact Hp
    isplitl [Hc]; · iexact Hc
    isplitl [H1]; · iexact H1
    iexact H2
  iintro ⟨Hg, Hp, Hm, Hc⟩
  simp only [k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton]
  unfold k0_part43_skel k0_part44_skel k0_part45_skel k0_part46_skel k0_part47_skel k0_part48_skel k0_part49_skel k0_part50_skel k0_part51_skel
  simp only [Prog.lift, Prog.bind_op, Prog.bind_ret, Prog.pure_eq_ret]
  ihave H : iprop(relaySt DC SC 1 recvs (sendsOf 1) (doneRecv 0) [] 0) $$ [Hg Hp Hm Hc Ho]
  · unfold relaySt
    isplitl [Hc]; · iexact Hc
    isplitl [Hp]; · iexact Hp
    isplitl [Hm]; · iexact Hm
    isplitl [Hg]; · iexact Hg
    isplitr
    · iapply held_nil DC SC 1 (shr 0)
    iapply (outUpTo_zero 1 (deq DC SC)) $$ Ho
  iapply (wp_pass DC SC K 1 2 _ _ (by decide) (Fin.ext k0_dev23_eq) (Fin.ext k0_dev24_eq) rfl 0 0 rfl (doneRecv 0) (by decide) (by decide) _ ((places 2).drop 2) (by decide) _ (by decide) (by decide) (by decide) (by decide)
    rfl rfl rfl rfl rfl rfl rfl rfl rfl rfl rfl rfl rfl) $$ [H]
  · isplitr; · iexact HR
    isplitr; · iexact Hlev
    iexact H
  iintro H
  iapply (wp_pass DC SC K 1 2 _ _ (by decide) (Fin.ext k0_dev25_eq) (Fin.ext k0_dev26_eq) rfl 1 1 rfl (doneRecv 1) (by decide) (by decide) _ ((places 2).drop 4) (by decide) _ (by decide) (by decide) (by decide) (by decide)
    rfl rfl rfl rfl rfl rfl rfl rfl rfl rfl rfl rfl rfl) $$ [H]
  · isplitr; · iexact HR
    isplitr; · iexact Hlev
    iexact H
  iintro H
  iapply (wp_pass DC SC K 1 2 _ _ (by decide) (Fin.ext k0_dev27_eq) (Fin.ext k0_dev28_eq) rfl 2 2 rfl (doneRecv 2) (by decide) (by decide) _ ((places 2).drop 6) (by decide) _ (by decide) (by decide) (by decide) (by decide)
    rfl rfl rfl rfl rfl rfl rfl rfl rfl rfl rfl rfl rfl) $$ [H]
  · isplitr; · iexact HR
    isplitr; · iexact Hlev
    iexact H
  iintro H
  iapply (wp_pass DC SC K 1 2 _ _ (by decide) (Fin.ext k0_dev29_eq) (Fin.ext k0_dev30_eq) rfl 3 3 rfl (doneRecv 3) (by decide) (by decide) _ ((places 2).drop 8) (by decide) _ (by decide) (by decide) (by decide) (by decide)
    rfl rfl rfl rfl rfl rfl rfl rfl rfl rfl rfl rfl rfl) $$ [H]
  · isplitr; · iexact HR
    isplitr; · iexact Hlev
    iexact H
  iintro H
  unfold relaySt
  icases H with ⟨Hc, Hp, Hm, Hg, Hks, Ho⟩
  ihave H : iprop(backSt DC SC 1 [some (0, 1, 0), some (1, 1, 0), some (0, 1, 1), some (1, 1, 1), some (0, 1, 2), some (1, 1, 2), some (0, 1, 3), some (1, 1, 3)] (doneRecv 4) []) $$ [Hc Hp Hg]
  · unfold backSt
    isplitl [Hc]; · iexact Hc
    isplitl [Hp]; · iexact Hp
    isplitl [Hg]; · iexact Hg
    iapply held_nil DC SC 1 (shr 1)
  iapply (wp_back DC SC K 1 0 (doneBack 0) (by decide) (by decide) _ _ (by decide) (by decide) rfl rfl rfl rfl) $$ [H]
  · isplitr; · iexact HR
    isplitr; · iexact Hlev
    iexact H
  iintro H
  iapply (wp_back DC SC K 1 1 (doneBack 1) (by decide) (by decide) _ _ (by decide) (by decide) rfl rfl rfl rfl) $$ [H]
  · isplitr; · iexact HR
    isplitr; · iexact Hlev
    iexact H
  iintro H
  iapply (wp_back DC SC K 1 2 (doneBack 2) (by decide) (by decide) _ _ (by decide) (by decide) rfl rfl rfl rfl) $$ [H]
  · isplitr; · iexact HR
    isplitr; · iexact Hlev
    iexact H
  iintro H
  iapply (wp_back DC SC K 1 3 (doneBack 3) (by decide) (by decide) _ _ (by decide) (by decide) rfl rfl rfl rfl) $$ [H]
  · isplitr; · iexact HR
    isplitr; · iexact Hlev
    iexact H
  iintro H
  rw [dif_neg (by decide), wp_ret]
  unfold backSt
  icases H with ⟨Hc, Hp, Hg, Hks'⟩
  ihave Hks := (held_join DC SC 1 [3, 2, 1, 0]) $$ [Hks Hks']
  · isplitl [Hks]; · iexact Hks
    iexact Hks'
  imod (prog_end DC SC K 1 (doneBack 4) (by decide)) $$ [Hg] with Hs
  · isplitr; · iexact HR
    iexact Hg
  imodintro
  ihave Hks := (got_all DC SC 1) $$ Hks
  icases Hks with ⟨H1, H2⟩
  unfold bodyOut scratch
  isplitl [Hs]; · iexact Hs
  isplitl [Hp]; · iexact Hp
  isplitr [Ho]
  · isplitl [H0]; · iexact H0
    isplitl [H1]
    · iexists _; iexact H1
    · iexists _; iexact H2
  iapply (outUpTo_four 1 (deq DC SC)) $$ Ho

end Cert.Attn

end
-- ==== Proof.Deal.lean ====
/-
# Dealing out the protocol

The cells' states, positions and duty tokens are minted at launch; every token goes to the device that pays the duty.
The cells' invariants are opened for all devices at once, and the credits dealt at launch are those the devices wait for.
-/
module

public import proofs.«01_k».proof.Proof.BodyTwo
public import proofs.«01_k».proof.Proof.BodyOne

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## The tokens, payer by payer -/

/-- The tokens one payment needs: (device, cell, duty). -/
def toksOf (p : Dev nD) : Dev nD × CI → List (Dev nD × CI × Fin 4)
  | (d, none) => [(d, none, p)]
  | (d, some (b, j, k)) => [(d, some (b, j, k), 0), (p, some (b, slot d, k), 0)]

/-- All the tokens device `p` pays with. -/
def tokList (p : Dev nD) : List (Dev nD × CI × Fin 4) := (pays p).flatMap (toksOf p)

def tokEmb : Dev nD × CI × Fin 4 ↪ GSem nD τ sig × ℕ × Fin 4 :=
  ⟨fun t => (cell t.1 t.2.1, 0, t.2.2), fun t t' h => by
    have h1 : cell t.1 t.2.1 = cell t'.1 t'.2.1 := congrArg (fun x : GSem nD τ sig × ℕ × Fin 4 => x.1) h
    have h2 : t.2.2 = t'.2.2 := congrArg (fun x : GSem nD τ sig × ℕ × Fin 4 => x.2.2) h
    have h3 := cell_eq_iff.mp h1
    exact Prod.ext h3.1 (Prod.ext h3.2 h2)⟩

theorem tokList_nodup : ∀ p : Dev nD, (tokList p).Nodup := by decide +kernel
theorem tokList_disjoint : ∀ p p' : Dev nD, p ≠ p' → ∀ t ∈ tokList p, t ∉ tokList p' := by decide +kernel

def tokSet (p : Dev nD) : Finset (Dev nD × CI × Fin 4) := ⟨tokList p, tokList_nodup p⟩

def ringCells : Finset (GSem nD τ sig) := Finset.univ.map ⟨fun ci : Dev nD × CI => cell ci.1 ci.2, cell_injective⟩
def ringToks : Finset (GSem nD τ sig × ℕ × Fin 4) := (Finset.univ.biUnion tokSet).map tokEmb

/-- What device `c` pays with. -/
def toks (c : Dev nD) : sProp 𝕄 := bigSepL (pays c) (payTok c)

/-- A list's tokens, payment by payment. -/
theorem toks_list (p : Dev nD) (l : List (Dev nD × CI)) :
    bigSepL (l.flatMap (toksOf p)) (fun t => (dutyTok ER (cell t.1 t.2.1) 0 t.2.2 : sProp 𝕄)) ⊢ bigSepL l (payTok p) := by
  induction l with
  | nil => exact Entails.refl _
  | cons x l ih =>
    rw [List.flatMap_cons, bigSepL_append, bigSepL_cons']
    refine BI.sep_mono ?_ ih
    obtain ⟨d, _ | ⟨b, j, k⟩⟩ := x
    · unfold toksOf payTok
      rw [bigSepL_cons', bigSepL_nil]
      show iprop(dutyTok ER (cell d none) 0 p ∗ emp) ⊢ (dutyTok ER (cell d none) 0 p : sProp 𝕄)
      iintro ⟨H, -⟩
      iexact H
    · unfold toksOf payTok
      rw [bigSepL_cons', bigSepL_cons', bigSepL_nil]
      show iprop(dutyTok ER (cell d (some (b, j, k))) 0 0 ∗ dutyTok ER (cell p (some (b, slot d, k))) 0 0 ∗ emp)
        ⊢ (iprop(dutyTok ER (cell d (some (b, j, k))) 0 0 ∗ dutyTok ER (cell p (some (b, slot d, k))) 0 0) : sProp 𝕄)
      iintro ⟨H1, H2, -⟩
      isplitl [H1]; · iexact H1
      iexact H2

theorem over_union (s : Finset (Dev nD)) (Φ : Dev nD × CI × Fin 4 → sProp 𝕄) :
    bigSep (s.biUnion tokSet) Φ = bigSep s fun p => bigSep (tokSet p) Φ := by
  induction s using Finset.induction_on with
  | empty => rw [Finset.biUnion_empty, bigSep_empty, bigSep_empty]
  | insert p s hp ih =>
    rw [Finset.biUnion_insert, bigSep_union, ih, bigSep_insert hp]
    refine Finset.disjoint_left.mpr fun t ht ht' => ?_
    obtain ⟨p', hp', ht'⟩ := Finset.mem_biUnion.mp ht'
    exact tokList_disjoint p p' (fun h => hp (h ▸ hp')) t ht ht'

theorem toks_dealt : bigSep ringToks (fun x => (dutyTok ER x.1 x.2.1 x.2.2 : sProp 𝕄)) ⊢ bigSep Finset.univ fun c : Dev nD => toks c := by
  unfold ringToks
  rw [bigSep_map, over_union Finset.univ]
  refine bigSep_mono fun p _ => ?_
  rw [bigSep_eq_bigSepL_of_eq (tokList p) (Finset.ext fun t => by rw [List.mem_toFinset]; rfl) (tokList_nodup p)]
  exact toks_list p (pays p)

section Alloc

variable (DC : Fin 4 → Vec F S1x256x1024 .i8) (SC : Fin 4 → Vec F S1x256x1 .f32)

/-- What the launch deals device `c`: its cells' states, its positions, that its cells are at round 0, and what it pays with. -/
def dealt (c : Dev nD) : sProp 𝕄 :=
  iprop((bigSep Finset.univ fun i : CI => roundState ER (Rd DC SC) (cell c i) 0)
    ∗ ((bigSep Finset.univ fun i : CI => atPos ER (cell c i) 0 ∅ 0) ∗ bigSep Finset.univ fun i : CI => reached ER (cell c i) 0) ∗ toks c)

theorem fund_ring : BI.own (ER (initOf ringCells ringToks)) ⊢ (|==> bigSep Finset.univ (dealt DC SC) : sProp 𝕄) := by
  have hX (Φ : GSem nD τ sig → sProp 𝕄) : bigSep ringCells Φ = bigSep Finset.univ fun c : Dev nD => bigSep Finset.univ fun i : CI => Φ (cell c i) := by
    unfold ringCells; rw [bigSep_map, bigSep_univ_prod]; rfl
  iintro HX
  imod (Rounds.fund ER (Rd DC SC) ringCells ringToks) $$ HX with ⟨Hst, Hr, Hat, Htok⟩
  imodintro
  ihave Hst' := (Entails.of_eq (hX fun g => roundState ER (Rd DC SC) g 0)) $$ Hst
  ihave Hat' := (Entails.of_eq (hX fun g => atPos ER g 0 ∅ 0)) $$ Hat
  ihave Hr' := (Entails.of_eq (hX fun g => reached ER g 0)) $$ Hr
  ihave Htok' := toks_dealt $$ Htok
  unfold dealt; simp only [bigSep_sep']
  isplitl [Hst']; · iexact Hst'
  isplitl [Hat' Hr']
  · isplitl [Hat'] <;> iassumption
  iexact Htok'

/-- The kernel's own semaphores beside the staging ones. -/
abbrev osem : Fin 24 → SemLoc sig := fun n => .dma ⟨6 + n.val, by have := n.isLt; show _ < 30; omega⟩

theorem ownSemFacts : Pipeline.OwnSemFacts cfg0.spec osem := by decide

/-- Every cell of a device, in the order of the semaphores. -/
def cellList : List CI := none :: ([0, 1] : List (Fin 2)).flatMap fun b => ([0, 1, 2] : List (Fin 3)).flatMap fun j => ([0, 1, 2, 3] : List (Fin 4)).map fun k => some (b, j, k)

theorem cells_all (Φ : CI → sProp 𝕄) : bigSep Finset.univ Φ = bigSepL cellList Φ :=
  bigSep_univ_eq_bigSepL cellList (by decide) (by decide) Φ

theorem ownSems0_eq (c : Dev nD) : (Pipeline.ownSems0 (Ix := Unit) (Name := ℕ) (U := UU) (Lvl := ℕ) (Val := Elt F) (τ := τ) osem c : sProp 𝕄)
    = bigSepL cellList.tail fun i => semVal (cell c i) 0 := by
  rw [Pipeline.ownSems0_eq_of_list c osem (List.finRange 24) (by decide) (by decide)]; rfl

theorem unscopedSems0_eq (c : Dev nD) : (unscopedSems0 c : sProp 𝕄) = semVal (cell c none) 0 := by
  unfold unscopedSems0; rw [bigSep_eq_bigSepL_of_eq [SemLoc.reg barrier0] (by decide) (by decide)]; rfl

/-- The counters of all of a device's cells are its own semaphores' and its barrier's. -/
theorem sems0_eq (c : Dev nD) : (bigSep Finset.univ fun i : CI => (semVal (cell c i) 0 : sProp 𝕄))
    = iprop(unscopedSems0 c ∗ Pipeline.ownSems0 (Ix := Unit) (Name := ℕ) (U := UU) (Lvl := ℕ) (Val := Elt F) (τ := τ) osem c) := by
  rw [ownSems0_eq, unscopedSems0_eq, cells_all, show cellList = none :: cellList.tail from rfl, bigSepL_cons']
  rfl

theorem core_alloc (c : Dev nD) :
    iprop(Pipeline.ownSems0 (Ix := Unit) (Name := ℕ) (U := UU) (Lvl := ℕ) (Val := Elt F) (τ := τ) osem c ∗ unscopedSems0 c ∗ dealt DC SC c)
      ⊢ |={Set.univ}=> iprop((bigSep Finset.univ fun i : CI => iprop(∃ κ : ℕ, cellInv ER (Rd DC SC) κ (cell c i)))
          ∗ ((bigSep Finset.univ fun i : CI => atPos ER (cell c i) 0 ∅ 0) ∗ bigSep Finset.univ fun i : CI => reached ER (cell c i) 0) ∗ toks c) := by
  unfold dealt
  iintro ⟨Hos, Hus, Hst, Hat, Htok⟩
  ihave Hv := (Entails.of_eq (sems0_eq (F := F) c).symm) $$ [Hos Hus]
  · isplitl [Hus] <;> iassumption
  imod (show iprop((bigSep Finset.univ fun i : CI => semVal (cell c i) 0) ∗ bigSep Finset.univ fun i : CI => roundState ER (Rd DC SC) (cell c i) 0)
      ⊢ (|={Set.univ}=> bigSep Finset.univ fun i => iprop(∃ κ : ℕ, cellInv ER (Rd DC SC) κ (cell c i)) : sProp 𝕄) from by
        rw [← bigSep_sep']
        exact (bigSep_mono fun i _ => (Rounds.body_intro ER (Rd DC SC) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-- What each device starts the protocol with. -/
def ready (c : Dev nD) : sProp 𝕄 := iprop(∃ K, records DC SC K ∗ prog c ∅ ∗ toks c)

theorem prog_start (c : Dev nD) : (bigSep Finset.univ fun i : CI => atPos ER (cell c i) 0 ∅ 0) = (prog (F := F) c ∅ : sProp 𝕄) := by
  unfold prog
  exact bigSep_congr fun i _ => (if_neg (Finset.notMem_empty i)).symm

theorem ready_intro (K : Dev nD × CI → ℕ) (c : Dev nD) : iprop(records DC SC K ∗ prog c ∅ ∗ toks c) ⊢ ready DC SC c := by
  unfold ready
  iintro H
  iexists K
  iexact H

theorem regroup :
    (bigSep Finset.univ fun c : Dev nD => iprop((bigSep Finset.univ fun i : CI => iprop(∃ κ : ℕ, cellInv ER (Rd DC SC) κ (cell c i)))
          ∗ ((bigSep Finset.univ fun i : CI => atPos ER (cell c i) 0 ∅ 0) ∗ bigSep Finset.univ fun i : CI => reached ER (cell c i) 0) ∗ toks c) : sProp 𝕄)
      ⊢ bigSep Finset.univ (ready DC SC) := by
  rw [bigSep_sep', bigSep_sep', bigSep_sep', ← bigSep_univ_prod (fun ci : Dev nD × CI => iprop(∃ κ : ℕ, cellInv ER (Rd DC SC) κ (cell ci.1 ci.2))),
    ← bigSep_univ_prod (fun ci : Dev nD × CI => (reached ER (cell ci.1 ci.2) 0 : sProp 𝕄)), bigSep_congr (s := Finset.univ) (fun (c : Dev nD) _ => prog_start (F := F) c)]
  iintro ⟨HI, ⟨Hat, #HR⟩, Htok⟩
  ihave HK := (BI.bigSep_exists_pi Finset.univ (fun (ci : Dev nD × CI) (κ : ℕ) => (cellInv ER (Rd DC SC) κ (cell ci.1 ci.2) : sProp 𝕄))) $$ HI
  icases HK with ⟨%K, #HI⟩
  iapply (bigSep_with_persistent (R := records DC SC K) fun c _ => ready_intro DC SC K c)
  isplitr
  · unfold records; isplitl; · iexact HI
    iexact HR
  · rw [bigSep_sep']
    isplitl [Hat]; · iexact Hat
    iexact Htok

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ dealt DC SC c) : sProp 𝕄)
    ⊢ |={Set.univ}=> bigSep Finset.univ (ready DC SC) :=
  ((bigSep_mono fun c _ => core_alloc DC SC c).trans (bigSep_fupd _ _)).trans (BI.fupd_mono (regroup DC SC))

end Alloc

/-! ## The credits -/

/-- What device `c` owes at launch. -/
def O₀ (c : Dev nD) : CellTallies nD τ sig Unit := tal (pays c)

/-- The cells device `c` waits on with the launch's credit. -/
abbrev waited (c : Dev nD) : List CI := none :: if c = 0 then [] else recvs

theorem owed_count : ∀ c : Dev nD, ∀ i ∈ waited c, (∑ d : Dev nD, (pays d).count (c, i)) = (dutiesI c i).card := by decide +kernel

theorem launch_at (c : Dev nD) (i : CI) (hi : i ∈ waited c) :
    tallyOn (cell c i) (launchCredit (Pipeline.owing O₀) 0 (cell c i)) = (tallyAt (cell c i) () (need c i) : CellTallies nD τ sig Unit) := by
  unfold tallyAt; refine congrArg _ (Finsupp.ext fun u => ?_); cases u
  rw [Pipeline.launchCredit_owing, Finsupp.single_eq_same]
  show (∑ d : Dev nD, tal (pays d) (cell c i) ()) = _
  rw [Finset.sum_congr rfl fun d _ => tal_apply (pays d) c i, ← Finset.sum_mul, owed_count c i hi]

theorem waited_nodup : ∀ c : Dev nD, ((waited c).map semOf).Nodup := by decide +kernel

theorem creds (c : Dev nD) : (Pipeline.launchCred O₀ c : sProp 𝕄) ⊢ crs c (waited c) := by
  unfold Pipeline.launchCred
  refine (bigSep_subset (s := Finset.univ) (t := ((waited c).map semOf).toFinset) (Finset.subset_univ _)).trans ?_
  rw [bigSep_eq_bigSepL_of_eq ((waited c).map semOf) rfl (waited_nodup c), bigSepL_map]
  unfold crs
  refine bigSepL_mono fun i hi => ?_
  exact Entails.of_eq (congrArg _ (launch_at c i hi))

end Cert.Attn

end
-- ==== Proof.Values.lean ====
/-
# What device 0 computes

The kernel's values on device 0, one definition for every head and every chunk: the queries projected once, the keys and
values laid out as one array, a head of a chunk, a chunk's context, and the codes, scales and rows it makes of it.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- The first device's keys and values, one above the other. -/
abbrev kM : Memref sig .tc .vmem S2x1024x1024 .bf16 := Memref.whole cc0_scratch0

theorem inbKV (b : Fin 2) : ∀ a, (![b.val, 0, 0] : Fin 3 → ℕ) a + S1x1024x1024.size a ≤ S2x1024x1024.size a := by
  revert b; decide
/-- All the keys (`b = 0`) or all the values (`b = 1`). -/
abbrev rKV (b : Fin 2) : Rect S2x1024x1024 := Rect.unit (s := S2x1024x1024) ![b.val, 0, 0] S1x1024x1024.size (inbKV b)

/-- The array holding `kv 0` above `kv 1`. -/
def kvBuf {α : Type} (kv : Fin 2 → S1x1024x1024.Idx → α) (i : S2x1024x1024.Idx) : α :=
  kv (i 0) (fun | 0 => ⟨0, Nat.one_pos⟩ | 1 => i 1 | 2 => i 2)

theorem kv_ext (f : (cc0_scratch0 : Ref sig .tc).ty.Contents (Elt F)) (kv : Fin 2 → Vec F S1x1024x1024 .bf16)
    (h : ∀ b : Fin 2, kM.view.readAt (Elt F) (rKV b).toLoadRect f = kv b) : f = kvBuf kv := by
  funext i
  unfold kvBuf
  rw [← h (i 0)]
  show f i = f _
  congr 1
  funext a
  match a with
  | 0 => exact Fin.ext (by show (i 0).val = (i 0).val + 1 * 0; omega)
  | 1 => exact Fin.ext (by show (i 1).val = 0 + 1 * (i 1).val; omega)
  | 2 => exact Fin.ext (by show (i 2).val = 0 + 1 * (i 2).val; omega)

/-- `n` rows of the head `h` from row `r` lie in the array. -/
theorem inbRows (b : Fin 2) (r n : ℕ) (h : Fin 8) (hr : r + n ≤ 1024) :
    ∀ a, (![b.val, r, 128 * h.val] : Fin 3 → ℕ) a + (⟨3, ![1, n, 128]⟩ : Shape).size a ≤ S2x1024x1024.size a := by
  intro a
  have := b.isLt
  have := h.isLt
  match a with
  | 0 => show b.val + 1 ≤ 2; omega
  | 1 => show r + n ≤ 1024; omega
  | 2 => show 128 * h.val + 128 ≤ 1024; omega

/-- Summing a row of `n` entries away. -/
theorem reducesRow (n : ℕ) : (⟨2, ![256, n]⟩ : Shape).Reduces [1] S256 :=
  ⟨rfl, Nat.one_pos, fun b => by match b with | 0 => rfl⟩
/-- Dropping the leading unit axis of `n` rows. -/
theorem castsRows (n : ℕ) : (⟨3, ![1, n, 128]⟩ : Shape).ShapeCasts (⟨2, ![n, 128]⟩ : Shape) := by
  show Shape.numel _ = Shape.numel _
  simp [Shape.numel, Fin.prod_univ_succ]

section

variable [FloatOps F] [Named F]

/-- Keys (`b = 0`) or values (`b = 1`) `r … r + n - 1` of head `h`. -/
def rows (kv : Fin 2 → Vec F S1x1024x1024 .bf16) (b : Fin 2) (r n : ℕ) (hr : r + n ≤ 1024) (h : Fin 8) : FVec F ⟨2, ![n, 128]⟩ .bf16 :=
  shapeCast ⟨2, ![n, 128]⟩ (kM.view.readAt (Elt F) (Rect.unit (s := S2x1024x1024) ![b.val, r, 128 * h.val] (⟨3, ![1, n, 128]⟩ : Shape).size
    (inbRows b r n h hr)).toLoadRect (kvBuf kv) : FVec F ⟨3, ![1, n, 128]⟩ .bf16) (castsRows n)

/-- The exponentials of the scaled scores of 256 queries against `n` keys. -/
def expScores (n : ℕ) (q : FVec F S256x128 .bf16) (k : FVec F ⟨2, ![n, 128]⟩ .bf16) : FVec F ⟨2, ![256, n]⟩ .f32 :=
  exp (mulf (matmul (DotDims.transposedRhs 256 128 n) none q k (constant _ .f32 0x00000000#32))
    (broadcast _ (Named.named κ "scale" 0x3DB504F3#32)))

/-- Which of a chunk's keys each of its queries attends to: those of its own block of 64 and of the blocks before it. -/
def mask : IVec S256x256 1 :=
  k0_pay8 (iota .tc S256x256 32 [0] iota_S256x256_d0_w32) 64#32 k0_pay6 k0_pay7 (Scalar.extui (Scalar.cmpi .sgt 64#32 0#32))

/-- The weights of a chunk's own keys. -/
def ownWeights (q k : FVec F S256x128 .bf16) : FVec F S256x256 .f32 :=
  select mask (expScores 256 q k) (broadcast S256x256 (Scalar.ofBits .f32 0x00000000#32))

/-- The sum of each row of weights. -/
def total (n : ℕ) (w : FVec F ⟨2, ![256, n]⟩ .f32) : FVec F S256x1 .f32 :=
  shapeCast S256x1 (multiReduction .add [1] S256 w 0x00000000#32 (reducesRow n) (.inl rfl) rfl) shapeCasts_S256_S256x1

/-- Weights against values. -/
def mix (n : ℕ) (w : FVec F ⟨2, ![256, n]⟩ .f32) (v : FVec F ⟨2, ![n, 128]⟩ .bf16) : FVec F S256x128 .f32 :=
  matmul (DotDims.plain 256 n 128) none (truncf .bf16 w bitsLt_bf16_f32) v (constant _ .f32 0x00000000#32)

/-- A mix over its weights' total. -/
def normal (m : FVec F S256x128 .f32) (d : FVec F S256x1 .f32) : FVec F S256x128 .f32 :=
  mulf m (broadcastTo S256x128 (divf (broadcast S256x1 (Scalar.ofBits .f32 0x3F800000#32)) d) broadcasts_S256x1_S256x128)

variable (q : FVec F S1024x1024 .bf16) (kv : Fin 2 → Vec F S1x1024x1024 .bf16)

theorem slicesChunk (r : ℕ) (hr : r + 256 ≤ 1024) : S1024x1024.Slices ![r, 0] S256x1024 :=
  ⟨rfl, fun a => by match a with | 0 => exact hr | 1 => exact Nat.le_refl _⟩
theorem slicesHead (h : Fin 8) : S256x1024.Slices ![0, 128 * h.val] S256x128 := by revert h; decide

/-- The queries of the chunk from row `r`, head `h`. -/
def queries (r : ℕ) (hr : r + 256 ≤ 1024) (h : Fin 8) : FVec F S256x128 .bf16 :=
  extractStridedSlice S256x128 ![0, 128 * h.val] (extractStridedSlice S256x1024 ![r, 0] q (slicesChunk r hr)) (slicesHead h)

/-- Head `h` of the first chunk, whose queries see only its own keys. -/
def headFirst (h : Fin 8) : FVec F S256x128 .f32 :=
  let w := ownWeights (queries q 0 (by decide) h) (rows kv 0 0 256 (by decide) h)
  normal (mix 256 w (rows kv 1 0 256 (by decide) h)) (total 256 w)

/-- Head `h` of the chunk from row `r`: its own keys under the mask, and all the keys before it. -/
def headLater (r : ℕ) (hr : r + 256 ≤ 1024) (h : Fin 8) : FVec F S256x128 .f32 :=
  let w := ownWeights (queries q r hr h) (rows kv 0 r 256 hr h)
  let u := expScores r (queries q r hr h) (rows kv 0 0 r (by omega) h)
  normal (addf (mix 256 w (rows kv 1 r 256 hr h)) (mix r u (rows kv 1 0 r (by omega) h))) (addf (total 256 w) (total r u))

/-- Head `h` of chunk `k`. -/
def head (k : Fin 4) (h : Fin 8) : FVec F S256x128 .f32 :=
  match k with
  | 0 => headFirst q kv h
  | 1 => headLater q kv 256 (by decide) h
  | 2 => headLater q kv 512 (by decide) h
  | 3 => headLater q kv 768 (by decide) h

/-- The context of chunk `k`: its eight heads side by side. -/
def context (k : Fin 4) : FVec F S256x1024 .bf16 :=
  truncf .bf16 (concatenate S256x1024 1 [⟨S256x128, head q kv k 0⟩, ⟨S256x128, head q kv k 1⟩, ⟨S256x128, head q kv k 2⟩, ⟨S256x128, head q kv k 3⟩, ⟨S256x128, head q kv k 4⟩, ⟨S256x128, head q kv k 5⟩, ⟨S256x128, head q kv k 6⟩, ⟨S256x128, head q kv k 7⟩]
    concatenates_S256x128_S256x128_S256x128_S256x128_S256x128_S256x128_S256x128_S256x128_S256x1024_d1) bitsLt_bf16_f32

variable (wo : FVec F S1024x1024 .bf16)

/-- The codes of chunk `k`. -/
def codes (k : Fin 4) : Vec F S1x256x1024 .i8 := k0_pay25 wo (context q kv k)
/-- The scales of chunk `k`. -/
def scales (k : Fin 4) : Vec F S1x256x1 .f32 := k0_pay26 wo (context q kv k)
/-- The rows of chunk `k` of the attention's output. -/
def plainRows (k : Fin 4) : Vec F S1x256x1024 .f32 := k0_pay27 (k0_pay23 wo (context q kv k))

end

end Cert.Attn

end
-- ==== Proof.Emit.lean ====
/-
# Device 0: a chunk sent

Device 0 stores a chunk's codes and scales, sends both to devices 1 and 3 lending a half of them to each transfer, and
writes the chunk itself to its output; at the end it waits for its transfers and has the halves back.
-/
module

public import proofs.«01_k».proof.Proof.Receive

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- Two contents that a read through a rectangle sees equal agree on the rectangle's cells. -/
theorem eqOn_of_readAt {κ : Kind} {sp : Space} {s : Shape} {e : EltTy} (v : View sig κ sp s e) (r : Rect s) (f g : v.ty.Contents (Elt F))
    (h : v.readAt (Elt F) r.toLoadRect f = v.readAt (Elt F) r.toLoadRect g) : ∀ i ∈ v.setOn r.set, f i = g i := by
  intro i hi
  obtain ⟨y, hy, rfl⟩ := Finset.mem_map.mp hi
  obtain ⟨x, rfl⟩ := r.exists_idx_of_mem hy
  have := congrFun h x
  rw [View.readAt_apply, View.readAt_apply, View.read_apply, View.read_apply] at this
  exact (cast_inj _).mp this

theorem duties0 : ∀ (b : Fin 2) (j : Fin 3) (k : Fin 4), j ≠ 2 → dutiesI 0 (some (b, j, k)) = {0} := by decide
theorem duties13 : ∀ (b : Fin 2) (k : Fin 4), dutiesI 1 (some (b, 2, k)) = {0} ∧ dutiesI 3 (some (b, 2, k)) = {0} := by decide

section Emit

variable (DC : Fin 4 → Vec F S1x256x1024 .i8) (SC : Fin 4 → Vec F S1x256x1 .f32)

variable [FloatOps F] [Named F]
variable (K : Dev nD × CI → ℕ)

/-- Chunk `k` of the codes loaded (whatever it held) and stored. -/
theorem wp_fillD (c : Dev nD) (k : Fin 4) {w : Vec F S1x256x1024 .i8} (hw : w = DC k) {hl : dM.view.LoadsAt (rD k).toLoadRect}
    {hx : (dM.access (rD k)).Stores Finset.univ} {hm : (Finset.univ : Finset (rD k).shape.Idx) = Finset.univ ∨ ∀ a, (rD k).stride a = 1}
    {α : Type} {Q : α → sProp 𝕄} {kk : Prog (TpuEff nD τ sig (Elt F) Λ₀ .tc) α} :
    pcAny (F := F) c 0 k ⊢ iprop((pc DC SC c fullShare 0 k -∗ wp frame (wpE (defs₀ (F := F)) 𝒱₀ (c : Thread nD τ) none) Set.univ kk Q)
      -∗ wp frame (wpE (defs₀ (F := F)) 𝒱₀ (c : Thread nD τ) none) Set.univ
        (.op (.load dM (rD k).toLoadRect hl) fun _ => .op (.store dM (rD k) w Finset.univ hx hm) fun _ => kk) Q) := by
  rw [show pc DC SC c fullShare 0 k = pcD c fullShare k (bufD DC) from if_pos rfl,
    show pcAny (F := F) c 0 k = iprop(∃ f, pcD (F := F) c fullShare k f) from if_pos rfl]
  unfold pcD
  iintro ⟨%f, H⟩ Hk
  iapply (wp_load 𝒱₀ (c : Thread nD τ) none Set.univ (m := dM) (r := (rD k).toLoadRect) (Finset.Subset.refl _)) $$ H
  iintro H
  iapply (wp_store 𝒱₀ (c : Thread nD τ) none Set.univ (m := dM) (r := rD k) (Mk := Finset.univ) (by
    rw [View.setOn_univ]; exact (View.set_slice _ _).subset)) $$ H
  iintro H
  iapply Hk
  iapply (Entails.of_eq (pointsTo_congr (eqOn_of_readAt dM.view (rD k) _ _
    ((readAt_write_same dM.view (rD k) f w).trans (hw.trans (readAt_bufD DC k).symm))))) $$ H

/-- Chunk `k` of the scales loaded (whatever it held) and stored. -/
theorem wp_fillS (c : Dev nD) (k : Fin 4) {w : Vec F S1x256x1 .f32} (hw : w = SC k) {hl : sM.view.LoadsAt (rS k).toLoadRect}
    {hx : (sM.access (rS k)).Stores Finset.univ} {hm : (Finset.univ : Finset (rS k).shape.Idx) = Finset.univ ∨ ∀ a, (rS k).stride a = 1}
    {α : Type} {Q : α → sProp 𝕄} {kk : Prog (TpuEff nD τ sig (Elt F) Λ₀ .tc) α} :
    pcAny (F := F) c 1 k ⊢ iprop((pc DC SC c fullShare 1 k -∗ wp frame (wpE (defs₀ (F := F)) 𝒱₀ (c : Thread nD τ) none) Set.univ kk Q)
      -∗ wp frame (wpE (defs₀ (F := F)) 𝒱₀ (c : Thread nD τ) none) Set.univ
        (.op (.load sM (rS k).toLoadRect hl) fun _ => .op (.store sM (rS k) w Finset.univ hx hm) fun _ => kk) Q) := by
  rw [show pc DC SC c fullShare 1 k = pcS c fullShare k (bufS SC) from if_neg (by decide),
    show pcAny (F := F) c 1 k = iprop(∃ f, pcS (F := F) c fullShare k f) from if_neg (by decide)]
  unfold pcS
  iintro ⟨%f, H⟩ Hk
  iapply (wp_load 𝒱₀ (c : Thread nD τ) none Set.univ (m := sM) (r := (rS k).toLoadRect) (Finset.Subset.refl _)) $$ H
  iintro H
  iapply (wp_store 𝒱₀ (c : Thread nD τ) none Set.univ (m := sM) (r := rS k) (Mk := Finset.univ) (by
    rw [View.setOn_univ]; exact (View.set_slice _ _).subset)) $$ H
  iintro H
  iapply Hk
  iapply (Entails.of_eq (pointsTo_congr (eqOn_of_readAt sM.view (rS k) _ _
    ((readAt_write_same sM.view (rS k) f w).trans (hw.trans (readAt_bufS SC k).symm))))) $$ H

/-- Chunks of both buffers not yet filled. -/
def blank (c : Dev nD) (ks : List (Fin 4)) : sProp 𝕄 := bigSepL ks fun k => iprop(pcAny (F := F) c 0 k ∗ pcAny (F := F) c 1 k)

theorem blank_intro (c : Dev nD) :
    iprop((∃ f, (((c : Thread nD τ).loc cc0_scratch1) ↦{fullShare} f)) ∗ (∃ f, (((c : Thread nD τ).loc cc0_scratch2) ↦{fullShare} f)))
      ⊢ (blank c [0, 1, 2, 3] : sProp 𝕄) := by
  unfold blank
  rw [← bigSep_univ_eq_bigSepL [0, 1, 2, 3] (by decide) (by decide), bigSep_sep']
  iintro ⟨⟨%f, H1⟩, ⟨%g, H2⟩⟩
  isplitl [H1]
  · iapply (anyD c f) $$ H1
  · iapply (anyS c g) $$ H2

/-- Device 0 between two chunks: `l` the send cells to wait for, `o` its transfers to come, `ks` the chunks to fill, `n` written. -/
def emitSt (O : Fin 4 → Vec F S1x256x1024 .f32) (l : List CI) (o : List (Dev nD × CI)) (ks : List (Fin 4)) (n : ℕ) : sProp 𝕄 :=
  iprop(crs 0 l ∗ plan 0 o ∗ perms o ∗ blank 0 ks ∗ outUpTo 0 O n)

/-- The send cells of chunk `k` in the order device 0 waits for them. -/
abbrev sents (k : Fin 4) : List CI := [some (0, 0, k), some (0, 1, k), some (1, 0, k), some (1, 1, k)]

/-- One chunk leaving device 0: the codes and the scales stored, their four transfers, and the chunk written to the output. -/
theorem wp_emit (O : Fin 4 → Vec F S1x256x1024 .f32) (k : Fin 4) (m : ℕ) (hmk : m = k.val) {n₁ n₂ n₃ n₄ : Dev nD} (hn₁ : n₁ = 1) (hn₂ : n₂ = 3) (hn₃ : n₃ = 1) (hn₄ : n₄ = 3)
    (l : List CI) (o : List (Dev nD × CI)) (ks : List (Fin 4))
    {wd : Vec F S1x256x1024 .i8} {ws : Vec F S1x256x1 .f32} {wo : Vec F S1x256x1024 .f32} (hwd : wd = DC k) (hws : ws = SC k) (hwo : wo = O k)
    {hl₀ : dM.view.LoadsAt (rD k).toLoadRect} {hx₀ : (dM.access (rD k)).Stores Finset.univ} {hm₀ : (Finset.univ : Finset (rD k).shape.Idx) = Finset.univ ∨ ∀ a, (rD k).stride a = 1}
    {hl₁ : sM.view.LoadsAt (rS k).toLoadRect} {hx₁ : (sM.access (rS k)).Stores Finset.univ} {hm₁ : (Finset.univ : Finset (rS k).shape.Idx) = Finset.univ ∨ ∀ a, (rS k).stride a = 1}
    {a₁ a₂ : Memref sig .tc .vmem S256x1024 .i8} {a₃ a₄ : Memref sig .tc .vmem S256x1 .f32}
    {b₁ : Memref sig (Dev.tc n₁ : Thread nD τ).2.kind .vmem S256x1024 .i8} {b₂ : Memref sig (Dev.tc n₂ : Thread nD τ).2.kind .vmem S256x1024 .i8}
    {b₃ : Memref sig (Dev.tc n₃ : Thread nD τ).2.kind .vmem S256x1 .f32} {b₄ : Memref sig (Dev.tc n₄ : Thread nD τ).2.kind .vmem S256x1 .f32}
    {s₁ s₂ s₃ s₄ t₁ t₂ t₃ t₄ : DmaSem sig}
    {e₁ f₁ g₁ i₁} {e₂ f₂ g₂ i₂} {e₃ f₃ g₃ i₃} {e₄ f₄ g₄ i₄}
    {r : LoadRect S1x1024x1024} {hl : oM.view.LoadsAt r}
    {hx : (oM.access (rO k)).Stores Finset.univ} {hm : (Finset.univ : Finset (rO k).shape.Idx) = Finset.univ ∨ ∀ a, (rO k).stride a = 1}
    (ha₁ : a₁ = dC k) (ha₂ : a₂ = dC k) (ha₃ : a₃ = sC k) (ha₄ : a₄ = sC k) (hb₁ : b₁ = dC k) (hb₂ : b₂ = dC k) (hb₃ : b₃ = sC k) (hb₄ : b₄ = sC k)
    (hs₁ : s₁ = dmaOf 0 0 k) (hs₂ : s₂ = dmaOf 0 1 k) (hs₃ : s₃ = dmaOf 1 0 k) (hs₄ : s₄ = dmaOf 1 1 k)
    (ht₁ : t₁ = dmaOf 0 2 k) (ht₂ : t₂ = dmaOf 0 2 k) (ht₃ : t₃ = dmaOf 1 2 k) (ht₄ : t₄ = dmaOf 1 2 k)
    {α : Type} {Q : α → sProp 𝕄} {kk : Prog (TpuEff nD τ sig (Elt F) Λ₀ .tc) α} :
    iprop(records DC SC K ∗ emitSt (F := F) O l ((1, some (0, 2, k)) :: (3, some (0, 2, k)) :: (1, some (1, 2, k)) :: (3, some (1, 2, k)) :: o) (k :: ks) m)
      ⊢ iprop((emitSt (F := F) O ((((l ++ [some (0, 0, k)]) ++ [some (0, 1, k)]) ++ [some (1, 0, k)]) ++ [some (1, 1, k)]) o ks (m + 1)
          -∗ wp frame (wpE (defs₀ (F := F)) 𝒱₀ ((0 : Dev nD) : Thread nD τ) none) Set.univ kk Q)
        -∗ wp frame (wpE (defs₀ (F := F)) 𝒱₀ ((0 : Dev nD) : Thread nD τ) none) Set.univ
            (.op (.load dM (rD k).toLoadRect hl₀) fun _ => .op (.store dM (rD k) wd Finset.univ hx₀ hm₀) fun _ =>
              .op (.load sM (rS k).toLoadRect hl₁) fun _ => .op (.store sM (rS k) ws Finset.univ hx₁ hm₁) fun _ =>
              .op (.enqueueDma a₁ (.remote (Dev.tc n₁ : Thread nD τ) b₁ (.dma s₁) e₁) (.dma t₁) f₁ g₁ i₁) fun _ =>
              .op (.enqueueDma a₂ (.remote (Dev.tc n₂ : Thread nD τ) b₂ (.dma s₂) e₂) (.dma t₂) f₂ g₂ i₂) fun _ =>
              .op (.enqueueDma a₃ (.remote (Dev.tc n₃ : Thread nD τ) b₃ (.dma s₃) e₃) (.dma t₃) f₃ g₃ i₃) fun _ =>
              .op (.enqueueDma a₄ (.remote (Dev.tc n₄ : Thread nD τ) b₄ (.dma s₄) e₄) (.dma t₄) f₄ g₄ i₄) fun _ =>
              .op (.load oM r hl) fun _ => .op (.store oM (rO k) wo Finset.univ hx hm) fun _ => kk) Q) := by
  have d0 : ∀ (b : Fin 2) (j : Fin 3), j ≠ 2 → dutiesI 0 (some (b, j, k)) = {0} := fun b j => duties0 b j k
  have d1 : ∀ b : Fin 2,  dutiesI 1 (some (b, 2, k)) = {0} := fun b => duties13 b k |>.1
  have d3 : ∀ b : Fin 2,  dutiesI 3 (some (b, 2, k)) = {0} := fun b => duties13 b k |>.2
  unfold emitSt blank
  rw [bigSepL_cons']
  iintro ⟨#HR, Hc, Hp, Hm, ⟨⟨H0, H1⟩, Hks⟩, Ho⟩ Hk
  iapply (wp_fillD DC SC 0 k hwd) $$ H0
  iintro H0
  iapply (wp_fillS DC SC 0 k hws) $$ H1
  iintro H1
  ihave H0 := (pc_halves DC SC 0 0 k).1 $$ H0
  ihave H1 := (pc_halves DC SC 0 1 k).1 $$ H1
  icases H0 with ⟨H0, G0⟩
  icases H1 with ⟨H1, G1⟩
  iapply (wp_sendD DC SC K 0 1 n₁ hn₁ k (d0 0 0 (by decide)) (d1 0) ha₁ hb₁ hs₁ ht₁ _ l) $$ [H0 Hm Hp Hc]
  · isplitr; · iexact HR
    isplitl [H0]; · iexact H0
    isplitl [Hm]; · iexact Hm
    isplitl [Hp]; · iexact Hp
    iexact Hc
  iintro ⟨Hm, Hp, Hc⟩
  iapply (wp_sendD DC SC K 0 3 n₂ hn₂ k (d0 0 1 (by decide)) (d3 0) ha₂ hb₂ hs₂ ht₂ _ _) $$ [G0 Hm Hp Hc]
  · isplitr; · iexact HR
    isplitl [G0]; · iexact G0
    isplitl [Hm]; · iexact Hm
    isplitl [Hp]; · iexact Hp
    iexact Hc
  iintro ⟨Hm, Hp, Hc⟩
  iapply (wp_sendS DC SC K 0 1 n₃ hn₃ k (d0 1 0 (by decide)) (d1 1) ha₃ hb₃ hs₃ ht₃ _ _) $$ [H1 Hm Hp Hc]
  · isplitr; · iexact HR
    isplitl [H1]; · iexact H1
    isplitl [Hm]; · iexact Hm
    isplitl [Hp]; · iexact Hp
    iexact Hc
  iintro ⟨Hm, Hp, Hc⟩
  iapply (wp_sendS DC SC K 0 3 n₄ hn₄ k (d0 1 1 (by decide)) (d3 1) ha₄ hb₄ hs₄ ht₄ o _) $$ [G1 Hm Hp Hc]
  · isplitr; · iexact HR
    isplitl [G1]; · iexact G1
    isplitl [Hm]; · iexact Hm
    isplitl [Hp]; · iexact Hp
    iexact Hc
  iintro ⟨Hm, Hp, Hc⟩
  iapply (wp_loadOut 0 O m) $$ Ho
  iintro Ho
  iapply (wp_storeOut 0 O k m hmk hwo) $$ Ho
  iintro Ho
  iapply Hk
  isplitl [Hc]; · iexact Hc
  isplitl [Hp]; · iexact Hp
  isplitl [Hm]; · iexact Hm
  isplitl [Hks]; · iexact Hks
  iexact Ho

/-- Device 0 while it waits for its transfers: the chunks whose shares have come back. -/
def homeSt (l : List CI) (done : Finset CI) (ks : List (Fin 4)) : sProp 𝕄 :=
  iprop(crs 0 l ∗ plan 0 [] ∗ prog 0 done ∗ got DC SC 0 ks)

/-- The waits for the four transfers of a chunk. -/
theorem wp_home (k : Fin 4) (done : Finset CI) (hi₁ : some (0, 0, k) ∉ done) (hi₂ : some (0, 1, k) ∉ insert (some (0, 0, k)) done)
    (hi₃ : some (1, 0, k) ∉ insert (some (0, 1, k)) (insert (some (0, 0, k)) done)) (hi₄ : some (1, 1, k) ∉ insert (some (1, 0, k)) (insert (some (0, 1, k)) (insert (some (0, 0, k)) done)))
    (l : List CI) (ks : List (Fin 4)) {s₁ s₂ s₃ s₄ : DmaSem sig}
    {a₁ a₂ b₁ b₂ : Memref sig .tc .vmem S256x1024 .i8} {a₃ a₄ b₃ b₄ : Memref sig .tc .vmem S256x1 .f32}
    {e₁ f₁} {e₂ f₂} {e₃ f₃} {e₄ f₄} (hs₁ : s₁ = dmaOf 0 0 k) (hs₂ : s₂ = dmaOf 0 1 k) (hs₃ : s₃ = dmaOf 1 0 k) (hs₄ : s₄ = dmaOf 1 1 k)
    (hb₁ : b₁ = dC k) (hb₂ : b₂ = dC k) (hb₃ : b₃ = sC k) (hb₄ : b₄ = sC k)
    {α : Type} {Q : α → sProp 𝕄} {kk : Prog (TpuEff nD τ sig (Elt F) Λ₀ .tc) α} :
    iprop(records DC SC K ∗ levAts L lv ∗ homeSt DC SC (some (0, 0, k) :: some (0, 1, k) :: some (1, 0, k) :: some (1, 1, k) :: l) done ks)
      ⊢ iprop((homeSt DC SC l (insert (some (1, 1, k)) (insert (some (1, 0, k)) (insert (some (0, 1, k)) (insert (some (0, 0, k)) done)))) (k :: ks)
          -∗ wp frame (wpE (defs₀ (F := F)) 𝒱₀ ((0 : Dev nD) : Thread nD τ) none) Set.univ kk Q)
        -∗ wp frame (wpE (defs₀ (F := F)) 𝒱₀ ((0 : Dev nD) : Thread nD τ) none) Set.univ
            (.op (.waitDma2 s₁ a₁ b₁ e₁ f₁) fun _ => .op (.waitDma2 s₂ a₂ b₂ e₂ f₂) fun _ => .op (.waitDma2 s₃ a₃ b₃ e₃ f₃) fun _ =>
              .op (.waitDma2 s₄ a₄ b₄ e₄ f₄) fun _ => kk) Q) := by
  have d0 : ∀ (b : Fin 2) (j : Fin 3), j ≠ 2 → dutiesI 0 (some (b, j, k)) = {0} := fun b j => duties0 b j k
  unfold homeSt got
  rw [bigSepL_cons']
  iintro ⟨#HR, #Hlev, Hc, Hp, Hg, Hks⟩ Hk
  iapply (wp_waitChunk DC SC K 0 0 0 k _ hi₁ _ [] (fun _ h => absurd h List.not_mem_nil) (d0 0 0 (by decide)) hs₁ (by rw [hb₁, amt_d])) $$ [Hc Hp Hg]
  · isplitr; · iexact HR
    isplitr; · iexact Hlev
    isplitl [Hc]; · iexact Hc
    isplitl [Hp]; · iexact Hp
    iexact Hg
  iintro ⟨Hc, Hp, Hg, H00⟩
  iapply (wp_waitChunk DC SC K 0 0 1 k _ hi₂ _ [] (fun _ h => absurd h List.not_mem_nil) (d0 0 1 (by decide)) hs₂ (by rw [hb₂, amt_d])) $$ [Hc Hp Hg]
  · isplitr; · iexact HR
    isplitr; · iexact Hlev
    isplitl [Hc]; · iexact Hc
    isplitl [Hp]; · iexact Hp
    iexact Hg
  iintro ⟨Hc, Hp, Hg, H01⟩
  iapply (wp_waitChunk DC SC K 0 1 0 k _ hi₃ _ [] (fun _ h => absurd h List.not_mem_nil) (d0 1 0 (by decide)) hs₃ (by rw [hb₃, amt_s])) $$ [Hc Hp Hg]
  · isplitr; · iexact HR
    isplitr; · iexact Hlev
    isplitl [Hc]; · iexact Hc
    isplitl [Hp]; · iexact Hp
    iexact Hg
  iintro ⟨Hc, Hp, Hg, H10⟩
  iapply (wp_waitChunk DC SC K 0 1 1 k _ hi₄ _ [] (fun _ h => absurd h List.not_mem_nil) (d0 1 1 (by decide)) hs₄ (by rw [hb₄, amt_s])) $$ [Hc Hp Hg]
  · isplitr; · iexact HR
    isplitr; · iexact Hlev
    isplitl [Hc]; · iexact Hc
    isplitl [Hp]; · iexact Hp
    iexact Hg
  iintro ⟨Hc, Hp, Hg, H11⟩
  iapply Hk
  isplitl [Hc]; · iexact Hc
  isplitl [Hp]; · iexact Hp
  isplitl [Hg]; · iexact Hg
  isplitr [Hks]
  · isplitl [H00 H01]
    · iapply (pc_halves DC SC 0 0 k).2
      isplitl [H00]; · iexact H00
      iexact H01
    · iapply (pc_halves DC SC 0 1 k).2
      isplitl [H10]; · iexact H10
      iexact H11
  · iexact Hks

end Emit

end Cert.Attn

end
-- ==== Proof.Inputs.lean ====
/-
# Device 0: its inputs taken up

Device 0 reads its staged inputs whole and lays the keys above the values in its first scratch buffer.
-/
module

public import proofs.«01_k».proof.Proof.Values
public import proofs.«01_k».proof.Proof.BodyOne
public import proofs.«01_k».proof.Proof.Emit

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- The staged inputs of a device. -/
structure Staged (F : FTy → Type) where
  x : Vec F S1x1024x1024 .bf16
  wq : Vec F S1024x1024 .bf16
  k : Vec F S1x1024x8x128 .bf16
  v : Vec F S1x1024x8x128 .bf16
  wo : Vec F S1024x1024 .bf16

variable [FloatOps F] [Named F]

/-- The queries of all rows. -/
def Staged.q (I : Staged F) : FVec F S1024x1024 .bf16 := k0_pay4 I.x I.wq
/-- The keys and the values, heads side by side. -/
def Staged.kv (I : Staged F) : Fin 2 → Vec F S1x1024x1024 .bf16 := fun b => if b = 0 then k0_pay2 I.k else k0_pay3 I.v
/-- The output's weights. -/
def Staged.w (I : Staged F) : FVec F S1024x1024 .bf16 := k0_pay5 I.wo

/-- The staged inputs of device `c`, held whole. -/
def inputs (c : Dev nD) (I : Staged F) : sProp 𝕄 :=
  iprop((((c : Thread nD τ).loc cc0_stg0_0) ↦{fullShare} I.x) ∗ (((c : Thread nD τ).loc cc0_stg1_0) ↦{fullShare} I.wq)
    ∗ (((c : Thread nD τ).loc cc0_stg2_0) ↦{fullShare} I.k) ∗ (((c : Thread nD τ).loc cc0_stg3_0) ↦{fullShare} I.v)
    ∗ (((c : Thread nD τ).loc cc0_stg4_0) ↦{fullShare} I.wo))

/-- A rectangle from the origin of unit steps is the identity on its indices. -/
theorem Rect.unit_zero_idx {s : Shape} (off : Fin s.rank → ℕ) (h) (h0 : ∀ a, off a = 0) (i : (Rect.unit (s := s) off s.size h).shape.Idx) :
    (Rect.unit (s := s) off s.size h).idx i = i := by
  funext a
  refine Fin.ext ?_
  show off a + 1 * (i a).val = (i a).val
  rw [h0]; omega

theorem zeros4 : ∀ a, (![0, 0, 0, 0] : Fin 4 → ℕ) a = 0 := by decide
theorem zeros3 : ∀ a, (![0, 0, 0] : Fin 3 → ℕ) a = 0 := by decide
theorem zeros2 : ∀ a, (![0, 0] : Fin 2 → ℕ) a = 0 := by decide

/-! A staged input read whole is its contents. -/

theorem read_stg0 (f : Vec F S1x1024x1024 .bf16) : (Memref.whole cc0_stg0_0).view.readAt (Elt F) (Rect.unit (s := S1x1024x1024) ![0, 0, 0] S1x1024x1024.size inb_S1x1024x1024_S1x1024x1024_0_0_0).toLoadRect f = f :=
  funext fun i => congrArg f (Rect.unit_zero_idx _ _ zeros3 i)
theorem read_stg1 (f : Vec F S1024x1024 .bf16) : (Memref.whole cc0_stg1_0).view.readAt (Elt F) (Rect.unit (s := S1024x1024) ![0, 0] S1024x1024.size inb_S1024x1024_S1024x1024_0_0).toLoadRect f = f :=
  funext fun i => congrArg f (Rect.unit_zero_idx _ _ zeros2 i)
theorem read_stg2 (f : Vec F S1x1024x8x128 .bf16) : (Memref.whole cc0_stg2_0).view.readAt (Elt F) (Rect.unit (s := S1x1024x8x128) ![0, 0, 0, 0] S1x1024x8x128.size inb_S1x1024x8x128_S1x1024x8x128_0_0_0_0).toLoadRect f = f :=
  funext fun i => congrArg f (Rect.unit_zero_idx _ _ zeros4 i)
theorem read_stg3 (f : Vec F S1x1024x8x128 .bf16) : (Memref.whole cc0_stg3_0).view.readAt (Elt F) (Rect.unit (s := S1x1024x8x128) ![0, 0, 0, 0] S1x1024x8x128.size inb_S1x1024x8x128_S1x1024x8x128_0_0_0_0).toLoadRect f = f :=
  funext fun i => congrArg f (Rect.unit_zero_idx _ _ zeros4 i)
theorem read_stg4 (f : Vec F S1024x1024 .bf16) : (Memref.whole cc0_stg4_0).view.readAt (Elt F) (Rect.unit (s := S1024x1024) ![0, 0] S1024x1024.size inb_S1024x1024_S1024x1024_0_0).toLoadRect f = f :=
  funext fun i => congrArg f (Rect.unit_zero_idx _ _ zeros2 i)

/-- The keys' rows are not the values'. -/
theorem rKV_off (x : (rKV 0).shape.Idx) : (rKV 0).idx x ∉ (rKV 1).set := by
  intro h
  obtain ⟨h1, h2⟩ := Rect.mem_set_unit.mp h 0
  have hx := (x 0).isLt
  change (x 0).val < 1 at hx
  change 1 ≤ 0 + 1 * (x 0).val at h1
  omega

/-- The keys stored and then the values: the buffer holds both. -/
theorem kv_written (f : (cc0_scratch0 : Ref sig .tc).ty.Contents (Elt F)) (kv : Fin 2 → Vec F S1x1024x1024 .bf16) :
    (kM.view.slice (rKV 1)).write (Elt F) ((kM.view.slice (rKV 0)).write (Elt F) f (kv 0) Finset.univ) (kv 1) Finset.univ = kvBuf kv := by
  refine kv_ext _ kv fun b => ?_
  match b with
  | 0 => exact (readAt_write_other kM.view (rKV 1) (rKV 0) rKV_off _ _).trans (readAt_write_same _ _ _ _)
  | 1 => exact readAt_write_same _ _ _ _

theorem kv_laid (I : Staged F) (f : (cc0_scratch0 : Ref sig .tc).ty.Contents (Elt F)) :
    (((kM.access (rKV 1)).loc ((0 : Dev nD) : Thread nD τ) ↦{fullShare}
        (kM.access (rKV 1)).write (Elt F) ((kM.access (rKV 0)).write (Elt F) f (k0_pay2 I.k) Finset.univ) (k0_pay3 I.v) Finset.univ) : sProp 𝕄)
      ⊢ (((0 : Dev nD) : Thread nD τ).loc cc0_scratch0 ↦{fullShare} kvBuf I.kv) := by
  rw [← kv_written f I.kv]; exact Entails.refl _

/-- A load of a buffer held whole yields what its rectangle reads. -/
theorem wp_loadIs (c : Dev nD) {s : Shape} {e : EltTy} (m : Memref sig .tc .vmem s e) (r : LoadRect s) {f : m.view.ty.Contents (Elt F)} {X : r.shape.Idx → Elt F e}
    (hX : m.view.readAt (Elt F) r f = X) {hl : m.view.LoadsAt r}
    {α : Type} {Q : α → sProp 𝕄} {kk : (r.shape.Idx → Elt F e) → Prog (TpuEff nD τ sig (Elt F) Λ₀ .tc) α} :
    ((m.view.loc (c : Thread nD τ) ↦{fullShare} f) : sProp 𝕄)
      ⊢ iprop(((m.view.loc (c : Thread nD τ) ↦{fullShare} f) -∗ wp frame (wpE (defs₀ (F := F)) 𝒱₀ (c : Thread nD τ) none) Set.univ (kk X) Q)
      -∗ wp frame (wpE (defs₀ (F := F)) 𝒱₀ (c : Thread nD τ) none) Set.univ (.op (.load m r hl) kk) Q) := by
  subst hX
  exact wp_load 𝒱₀ (c : Thread nD τ) none Set.univ (Finset.subset_univ _)

set_option maxRecDepth 65536 in
/-- The kernel's first stretch: the inputs read, the keys and the values laid out. -/
theorem take_inputs (I : Staged F) {Q : _ → sProp 𝕄} :
    iprop(inputs 0 I ∗ (∃ f, (((0 : Dev nD) : Thread nD τ).loc cc0_scratch0 ↦{fullShare} f)))
      ⊢ iprop(((inputs 0 I ∗ (((0 : Dev nD) : Thread nD τ).loc cc0_scratch0 ↦{fullShare} kvBuf I.kv))
          -∗ Q ⟨I.q, I.w, iota .tc S256x256 32 [0] iota_S256x256_d0_w32, 64#32, k0_pay6, k0_pay7, Scalar.extui (Scalar.cmpi .sgt 64#32 0#32)⟩)
        -∗ wp frame (wpE (defs₀ (F := F)) 𝒱₀ ((0 : Dev nD) : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6) Q) := by
  rw [k0_part1_eq_skeleton]
  unfold k0_part1_skel
  simp only [Prog.lift, Prog.bind_op, Prog.bind_ret, Prog.pure_eq_ret]
  unfold inputs Staged.q Staged.w
  iintro ⟨⟨Hx, Hq, Hk, Hv, Hw⟩, ⟨%f, H0⟩⟩ K
  iapply (wp_loadIs 0 (Memref.whole cc0_stg2_0) _ (read_stg2 I.k)) $$ Hk
  iintro Hk
  iapply (wp_loadIs 0 (Memref.whole cc0_scratch0) _ rfl) $$ H0
  iintro H0
  iapply (wp_store 𝒱₀ ((0 : Dev nD) : Thread nD τ) none Set.univ (m := kM) (r := rKV 0) (Mk := Finset.univ) (Finset.subset_univ _)) $$ H0
  iintro H0
  iapply (wp_loadIs 0 (Memref.whole cc0_stg3_0) _ (read_stg3 I.v)) $$ Hv
  iintro Hv
  iapply (wp_loadIs 0 (Memref.whole cc0_scratch0) _ rfl) $$ H0
  iintro H0
  iapply (wp_store 𝒱₀ ((0 : Dev nD) : Thread nD τ) none Set.univ (m := kM) (r := rKV 1) (Mk := Finset.univ) (Finset.subset_univ _)) $$ H0
  iintro H0
  iapply (wp_loadIs 0 (Memref.whole cc0_stg0_0) _ (read_stg0 I.x)) $$ Hx
  iintro Hx
  iapply (wp_loadIs 0 (Memref.whole cc0_stg1_0) _ (read_stg1 I.wq)) $$ Hq
  iintro Hq
  iapply (wp_loadIs 0 (Memref.whole cc0_stg4_0) _ (read_stg4 I.wo)) $$ Hw
  iintro Hw
  rw [wp_ret]
  imodintro
  iapply K
  isplitr [H0]
  · isplitl [Hx]; · iexact Hx
    isplitl [Hq]; · iexact Hq
    isplitl [Hk]; · iexact Hk
    isplitl [Hv]; · iexact Hv
    iexact Hw
  iapply (kv_laid I f) $$ H0

end Cert.Attn

end
-- ==== Proof.BodyZero.lean ====
/-
# The body of device 0
-/
module

public import proofs.«01_k».proof.Proof.Inputs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable [FloatOps F] [Named F]
variable (DC : Fin 4 → Vec F S1x256x1024 .i8) (SC : Fin 4 → Vec F S1x256x1 .f32)
variable (K : Dev nD × CI → ℕ)

/-- Device 0's transfers, in program order. -/
abbrev leaves : List (Dev nD × CI) :=
  ([(1, 0, 0), (3, 0, 0), (1, 1, 0), (3, 1, 0), (1, 0, 1), (3, 0, 1), (1, 1, 1), (3, 1, 1),
    (1, 0, 2), (3, 0, 2), (1, 1, 2), (3, 1, 2), (1, 0, 3), (3, 0, 3), (1, 1, 3), (3, 1, 3)] : List (Dev nD × Fin 2 × Fin 4)).map fun p => (p.1, some (p.2.1, 2, p.2.2))

theorem sendsOf_zero : sendsOf 0 = leaves := by decide

theorem bigSepL_leaves (Φ : Dev nD × CI → sProp 𝕄) : bigSepL (places 1 ++ places 3) Φ = bigSepL leaves Φ :=
  (bigSep_eq_bigSepL_of_eq (places 1 ++ places 3) rfl (by decide) Φ).symm.trans (bigSep_eq_bigSepL_of_eq leaves (by decide) (by decide) Φ)

/-- The landing buffers of devices 1 and 3 are the places device 0's transfers land. -/
theorem perms_leaves : (iprop(landing 1 ∗ landing 3) : sProp 𝕄) ⊢ perms (F := F) leaves := by
  iintro ⟨H1, H3⟩
  ihave H1 := (perms_landing 1) $$ H1
  ihave H3 := (perms_landing 3) $$ H3
  unfold perms
  iapply (Entails.of_eq (bigSepL_leaves _))
  iapply (Entails.of_eq (bigSepL_append (places 1) (places 3) _).symm)
  isplitl [H1]; · iexact H1
  iexact H3

/-- What device 0's barrier hands over. -/
theorem pay_zero : (bigSep (dutiesI 0 none) (payI DC SC 0 none) : sProp 𝕄) ⊢ iprop(landing 1 ∗ landing 3) := by
  have e : dutiesI 0 none = insert (1 : Fin 4) {3} := by decide
  rw [e, bigSep_insert (by decide), bigSep_singleton]
  have e1 : (payI DC SC 0 none 1 : sProp 𝕄) = landing 1 := by unfold payI; rw [if_pos (by decide)]
  have e3 : (payI DC SC 0 none 3 : sProp 𝕄) = landing 3 := by unfold payI; rw [if_pos (by decide)]
  rw [e1, e3]
  exact Entails.refl _

/-- Device 0's barrier: it lends nothing, and is lent the landing buffers of devices 1 and 3. -/
theorem barrier_zero {α : Type} {Q : α → sProp 𝕄} {kk : Prog (TpuEff nD τ sig (Elt F) Λ₀ .tc) α} (n n' : Dev nD) (hn : n = 1) (hn' : n' = 3) (l : List CI) :
    iprop(records DC SC K ∗ levAts L lv ∗ prog 0 ∅ ∗ plan 0 (pays 0) ∗ crs 0 (none :: l))
      ⊢ iprop(((prog 0 {none} ∗ plan 0 leaves ∗ perms leaves ∗ crs 0 l)
          -∗ wp frame (wpE (defs₀ (F := F)) 𝒱₀ ((0 : Dev nD) : Thread nD τ) none) Set.univ kk Q)
        -∗ wp frame (wpE (defs₀ (F := F)) 𝒱₀ ((0 : Dev nD) : Thread nD τ) none) Set.univ
            (.op (.semSignal (n : Thread nD τ) barrier0 (1#32).toNat) fun _ => .op (.semSignal (n' : Thread nD τ) barrier0 (1#32).toNat) fun _ =>
              .op (.semWait barrier0 (2#32).toNat) fun _ => kk) Q) := by
  rw [← sendsOf_zero]
  iintro ⟨#HR, #Hlev, Hg, Hp, Hc⟩ Hk
  iapply (wp_signalTo DC SC K 0 1 n hn (by decide) rfl rfl ((3, none) :: sendsOf 0)) $$ [Hp]
  · isplitr; · iexact HR
    isplitl [Hp]; · iexact Hp
    unfold payI
    rw [if_neg (by decide)]
    iempintro
  iintro Hp
  iapply (wp_signalTo DC SC K 0 3 n' hn' (by decide) rfl rfl (sendsOf 0)) $$ [Hp]
  · isplitr; · iexact HR
    isplitl [Hp]; · iexact Hp
    unfold payI
    rw [if_neg (by decide)]
    iempintro
  iintro Hp
  iapply (wp_waitOn DC SC K 0 none ∅ (Finset.notMem_empty _) l (sendsOf 0) (by decide) rfl (by decide)
    (wpE_semWait_eq 𝒱₀ ((0 : Dev nD) : Thread nD τ) none Set.univ)) $$ [Hp Hg Hc]
  · isplitr; · iexact HR
    isplitr; · iexact Hlev
    isplitl [Hc]; · iexact Hc
    isplitl [Hp]; · iexact Hp
    iexact Hg
  iintro ⟨Hc, Hp, Hg, Hpay⟩
  iapply Hk
  isplitl [Hg]; · iexact Hg
  isplitl [Hp]; · iexact Hp
  isplitl [Hpay]
  · ihave Hpay := (pay_zero DC SC) $$ Hpay
    rw [sendsOf_zero]
    iapply (perms_leaves) $$ Hpay
  iexact Hc

/-- The send cells of the chunks before `k`, as device 0's transfers collect them. -/
def sent : ℕ → List CI
  | 0 => []
  | k + 1 => (((sent k ++ [some (0, 0, Fin.ofNat 4 k)]) ++ [some (0, 1, Fin.ofNat 4 k)]) ++ [some (1, 0, Fin.ofNat 4 k)]) ++ [some (1, 1, Fin.ofNat 4 k)]

/-- All of them. -/
abbrev sentAll : List CI := sents 0 ++ sents 1 ++ sents 2 ++ sents 3

/-- The cells of device 0 closed once the chunks before `k` have come home. -/
def doneHome : ℕ → Finset CI
  | 0 => {none}
  | k + 1 => insert (some (1, 1, Fin.ofNat 4 k)) (insert (some (1, 0, Fin.ofNat 4 k)) (insert (some (0, 1, Fin.ofNat 4 k)) (insert (some (0, 0, Fin.ofNat 4 k)) (doneHome k))))

variable (I : Staged F)

set_option maxHeartbeats 4000000 in
set_option maxRecDepth 65536 in
/-- Device 0's body. -/
theorem body_zero : iprop(records (codes I.q I.kv I.w) (scales I.q I.kv I.w) K ∗ levAts L lv ∗ bodyIn (F := F) 0 ∗ inputs 0 I)
    ⊢ wp frame (wpE (defs₀ (F := F)) 𝒱₀ ((0 : Dev nD) : Thread nD τ) none) Set.univ (theBody (F := F))
      (fun _ => iprop(bodyOut 0 (plainRows I.q I.kv I.w) ∗ inputs 0 I)) := by
  have h1 : k0_cond1 (0 : Dev nD) = 1#1 := by decide
  have h2 : ¬ k0_cond2 (0 : Dev nD) = 1#1 := by decide
  have h3 : ¬ k0_cond3 (0 : Dev nD) = 1#1 := by decide
  have h4 : ¬ k0_cond4 (0 : Dev nD) = 1#1 := by decide
  have h5 : k0_cond5 (0 : Dev nD) = 1#1 := by decide
  have h6 : ¬ k0_cond6 (0 : Dev nD) = 1#1 := by decide
  unfold bodyIn scratch
  unfold theBody
  simp only [cc0_body_eq_skeleton]
  unfold cc0_body_skel
  simp only [semSignalWord, semWaitWord, Prog.lift, Prog.bind_op, Prog.bind_ret, Prog.pure_eq_ret, wp_deviceId, dif_pos h1, dif_neg h2, dif_neg h3, dif_neg h4, dif_pos h5, dif_neg h6]
  iintro ⟨#HR, #Hlev, ⟨Hg, Hp, Hc, ⟨H0, H1, H2⟩, ⟨%fo, Ho⟩⟩, HI⟩
  iapply (barrier_zero _ _ K _ _ (Fin.ext k0_dev1_eq) (Fin.ext k0_dev2_eq)) $$ [Hg Hp Hc]
  · isplitr; · iexact HR
    isplitr; · iexact Hlev
    isplitl [Hg]; · iexact Hg
    isplitl [Hp]; · iexact Hp
    iexact Hc
  iintro ⟨Hg, Hp, Hm, Hc⟩
  ihave Hb := (blank_intro 0) $$ [H1 H2]
  · isplitl [H1]; · iexact H1
    iexact H2
  ihave H : iprop(emitSt (F := F) (plainRows I.q I.kv I.w) (sent 0) leaves [0, 1, 2, 3] 0) $$ [Hc Hp Hm Hb Ho]
  · unfold emitSt
    isplitl [Hc]; · iexact Hc
    isplitl [Hp]; · iexact Hp
    isplitl [Hm]; · iexact Hm
    isplitl [Hb]; · iexact Hb
    iapply (outUpTo_zero 0 (plainRows I.q I.kv I.w)) $$ Ho
  simp only [k0_part42_eq_skeleton]
  unfold k0_part42_skel
  simp only [bind_assoc]
  rw [wp_bind]
  iapply (take_inputs I) $$ [HI H0]
  · isplitl [HI]; · iexact HI
    iexact H0
  iintro ⟨HI, H0⟩
  simp only [k0_part2_eq_skeleton, k0_part3_eq_skeleton, k0_part4_eq_skeleton, k0_part5_eq_skeleton, k0_part6_eq_skeleton, k0_part7_eq_skeleton, k0_part8_eq_skeleton, k0_part9_eq_skeleton]
  unfold k0_part2_skel k0_part3_skel k0_part4_skel k0_part5_skel k0_part6_skel k0_part7_skel k0_part8_skel k0_part9_skel
  simp only [Prog.lift, Prog.bind_op, Prog.bind_ret, Prog.pure_eq_ret]
  iterate 16
    (iapply (wp_loadIs 0 kM _ rfl) $$ H0
     iintro H0)
  iapply (wp_emit (codes I.q I.kv I.w) (scales I.q I.kv I.w) K (plainRows I.q I.kv I.w) 0 0 rfl (Fin.ext k0_dev7_eq) (Fin.ext k0_dev8_eq) (Fin.ext k0_dev9_eq) (Fin.ext k0_dev10_eq) (sent 0) (leaves.drop 4) (([0, 1, 2, 3] : List (Fin 4)).drop 1) (by rfl) (by rfl) (by rfl)
    rfl rfl rfl rfl rfl rfl rfl rfl rfl rfl rfl rfl rfl rfl rfl rfl) $$ [H]
  · isplitr; · iexact HR
    iexact H
  iintro H
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part10_skel k0_part11_skel k0_part12_skel k0_part13_skel k0_part14_skel k0_part15_skel k0_part16_skel k0_part17_skel k0_part18_skel
  simp only [Prog.lift, Prog.bind_op, Prog.bind_ret, Prog.pure_eq_ret]
  iterate 32
    (iapply (wp_loadIs 0 kM _ rfl) $$ H0
     iintro H0)
  iapply (wp_emit (codes I.q I.kv I.w) (scales I.q I.kv I.w) K (plainRows I.q I.kv I.w) 1 1 rfl (Fin.ext k0_dev11_eq) (Fin.ext k0_dev12_eq) (Fin.ext k0_dev13_eq) (Fin.ext k0_dev14_eq) (sent 1) (leaves.drop 8) (([0, 1, 2, 3] : List (Fin 4)).drop 2) (by rfl) (by rfl) (by rfl)
    rfl rfl rfl rfl rfl rfl rfl rfl rfl rfl rfl rfl rfl rfl rfl rfl) $$ [H]
  · isplitr; · iexact HR
    iexact H
  iintro H
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part19_skel k0_part20_skel k0_part21_skel k0_part22_skel k0_part23_skel k0_part24_skel k0_part25_skel k0_part26_skel k0_part27_skel k0_part28_skel
  simp only [Prog.lift, Prog.bind_op, Prog.bind_ret, Prog.pure_eq_ret]
  iterate 32
    (iapply (wp_loadIs 0 kM _ rfl) $$ H0
     iintro H0)
  iapply (wp_emit (codes I.q I.kv I.w) (scales I.q I.kv I.w) K (plainRows I.q I.kv I.w) 2 2 rfl (Fin.ext k0_dev15_eq) (Fin.ext k0_dev16_eq) (Fin.ext k0_dev17_eq) (Fin.ext k0_dev18_eq) (sent 2) (leaves.drop 12) (([0, 1, 2, 3] : List (Fin 4)).drop 3) (by rfl) (by rfl) (by rfl)
    rfl rfl rfl rfl rfl rfl rfl rfl rfl rfl rfl rfl rfl rfl rfl rfl) $$ [H]
  · isplitr; · iexact HR
    iexact H
  iintro H
  simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold k0_part29_skel k0_part30_skel k0_part31_skel k0_part32_skel k0_part33_skel k0_part34_skel k0_part35_skel k0_part36_skel k0_part37_skel
  simp only [Prog.lift, Prog.bind_op, Prog.bind_ret, Prog.pure_eq_ret]
  iterate 32
    (iapply (wp_loadIs 0 kM _ rfl) $$ H0
     iintro H0)
  iapply (wp_emit (codes I.q I.kv I.w) (scales I.q I.kv I.w) K (plainRows I.q I.kv I.w) 3 3 rfl (Fin.ext k0_dev19_eq) (Fin.ext k0_dev20_eq) (Fin.ext k0_dev21_eq) (Fin.ext k0_dev22_eq) (sent 3) (leaves.drop 16) (([0, 1, 2, 3] : List (Fin 4)).drop 4) (by rfl) (by rfl) (by rfl)
    rfl rfl rfl rfl rfl rfl rfl rfl rfl rfl rfl rfl rfl rfl rfl rfl) $$ [H]
  · isplitr; · iexact HR
    iexact H
  iintro H
  simp only [k0_part38_eq_skeleton, k0_part39_eq_skeleton, k0_part40_eq_skeleton, k0_part41_eq_skeleton]
  unfold k0_part38_skel k0_part39_skel k0_part40_skel k0_part41_skel
  simp only [Prog.lift, Prog.bind_op, Prog.bind_ret, Prog.pure_eq_ret]
  unfold emitSt
  icases H with ⟨Hc, Hp, Hm, Hks, Ho⟩
  ihave H : iprop(homeSt (codes I.q I.kv I.w) (scales I.q I.kv I.w) sentAll (doneHome 0) []) $$ [Hc Hp Hg]
  · unfold homeSt
    isplitl [Hc]; · iexact Hc
    isplitl [Hp]; · iexact Hp
    isplitl [Hg]; · iexact Hg
    iapply got_nil _ _ 0
  iapply (wp_home (codes I.q I.kv I.w) (scales I.q I.kv I.w) K 0 (doneHome 0) (by decide) (by decide) (by decide) (by decide) (sentAll.drop 4) _ rfl rfl rfl rfl rfl rfl rfl rfl) $$ [H]
  · isplitr; · iexact HR
    isplitr; · iexact Hlev
    iexact H
  iintro H
  iapply (wp_home (codes I.q I.kv I.w) (scales I.q I.kv I.w) K 1 (doneHome 1) (by decide) (by decide) (by decide) (by decide) (sentAll.drop 8) _ rfl rfl rfl rfl rfl rfl rfl rfl) $$ [H]
  · isplitr; · iexact HR
    isplitr; · iexact Hlev
    iexact H
  iintro H
  iapply (wp_home (codes I.q I.kv I.w) (scales I.q I.kv I.w) K 2 (doneHome 2) (by decide) (by decide) (by decide) (by decide) (sentAll.drop 12) _ rfl rfl rfl rfl rfl rfl rfl rfl) $$ [H]
  · isplitr; · iexact HR
    isplitr; · iexact Hlev
    iexact H
  iintro H
  iapply (wp_home (codes I.q I.kv I.w) (scales I.q I.kv I.w) K 3 (doneHome 3) (by decide) (by decide) (by decide) (by decide) (sentAll.drop 16) _ rfl rfl rfl rfl rfl rfl rfl rfl) $$ [H]
  · isplitr; · iexact HR
    isplitr; · iexact Hlev
    iexact H
  iintro H
  rw [dif_neg (by decide), wp_ret]
  unfold homeSt
  icases H with ⟨Hc, Hp, Hg, Hks'⟩
  imod (prog_end _ _ K 0 (doneHome 4) (by decide)) $$ [Hg] with Hs
  · isplitr; · iexact HR
    iexact Hg
  imodintro
  ihave Hks' := (got_all _ _ 0) $$ Hks'
  icases Hks' with ⟨H1, H2⟩
  unfold bodyOut scratch
  isplitr [HI]
  · isplitl [Hs]; · iexact Hs
    isplitl [Hp]; · iexact Hp
    isplitr [Ho]
    · isplitl [H0]
      · iexists _; iexact H0
      isplitl [H1]
      · iexists _; iexact H1
      · iexists _; iexact H2
    iapply (outUpTo_four 0 (plainRows I.q I.kv I.w)) $$ Ho
  iexact HI

end Cert.Attn

end
-- ==== Proof.Launch.lean ====
/-
# The run of all devices

The body on every device, the pipeline's data for it, and the launch: from any memory with zero counters every fair run
ends with the inputs unchanged, every counter at zero, and in each device's result the rows the kernel computes: device 0's
own, and on the others what the quantiser keeps of them.
-/
module

public import proofs.«01_k».proof.Proof.Deal
public import proofs.«01_k».proof.Proof.BodyZero
public import proofs.«01_k».proof.Proof.Gen.KernelIdeal.Points
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

open Idealize.ShloMosaic.Pipeline (Dat Cfg Window BodyObligation cellOf)

variable [FloatOps F] [Named F]
variable (m : (ℓ : Loc nD τ sig) → Buf (Elt F) ℓ) (ρ : Dev nD → PrngReg)

/-- The memory at launch. -/
def s₀ : MemSt nD τ sig (Elt F) := ⟨m, fun _ => 0, ρ⟩

/-- The operands of device `c`. -/
def given (c : Dev nD) : Staged F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- The codes and the scales device 0 sends. -/
def DC₀ : Fin 4 → Vec F S1x256x1024 .i8 := codes (given m 0).q (given m 0).kv (given m 0).w
def SC₀ : Fin 4 → Vec F S1x256x1 .f32 := scales (given m 0).q (given m 0).kv (given m 0).w

/-- What device `c`'s result holds, chunk by chunk. -/
def outOf (c : Dev nD) : Fin 4 → Vec F S1x256x1024 .f32 :=
  if c = 0 then plainRows (given m 0).q (given m 0).kv (given m 0).w else deq (DC₀ m) (SC₀ m)

/-! ## The body on every device -/

section Body

variable (K : Dev nD × CI → ℕ)

theorem body_keep (c : Dev nD) (I : Staged F) (O : Fin 4 → Vec F S1x256x1024 .f32) (DC SC)
    (h : iprop(records DC SC K ∗ levAts L lv ∗ bodyIn (F := F) c)
      ⊢ wp frame (wpE (defs₀ (F := F)) 𝒱₀ (c : Thread nD τ) none) Set.univ (theBody (F := F)) (fun _ => bodyOut c O)) :
    iprop(records DC SC K ∗ levAts L lv ∗ bodyIn (F := F) c ∗ inputs c I)
      ⊢ wp frame (wpE (defs₀ (F := F)) 𝒱₀ (c : Thread nD τ) none) Set.univ (theBody (F := F)) (fun _ => iprop(bodyOut c O ∗ inputs c I)) := by
  refine BI.Entails.trans ?_ ((BI.sep_mono h (Entails.refl _)).trans (wp_frame_r _ _ _))
  show iprop(records DC SC K ∗ levAts L lv ∗ bodyIn (F := F) c ∗ inputs c I) ⊢ iprop((records DC SC K ∗ levAts L lv ∗ bodyIn (F := F) c) ∗ inputs c I)
  iintro ⟨H1, H2, H3, H4⟩
  isplitr [H4]
  · isplitl [H1]; · iexact H1
    isplitl [H2]; · iexact H2
    iexact H3
  iexact H4

theorem outOf_zero : outOf m 0 = plainRows (given m 0).q (given m 0).kv (given m 0).w := if_pos rfl
theorem outOf_ne (c : Dev nD) (hc : c ≠ 0) : outOf m c = deq (DC₀ m) (SC₀ m) := if_neg hc

/-- What the body on device `c` does. -/
def Does (c : Dev nD) : Prop :=
    iprop(records (DC₀ m) (SC₀ m) K ∗ levAts L lv ∗ bodyIn (F := F) c ∗ inputs c (given m c))
      ⊢ wp frame (wpE (defs₀ (F := F)) 𝒱₀ (c : Thread nD τ) none) Set.univ (theBody (F := F)) (fun _ => iprop(bodyOut c (outOf m c) ∗ inputs c (given m c)))

theorem does_zero : Does m K 0 := by unfold Does; rw [outOf_zero]; exact body_zero K (given m 0)
theorem does_one : Does m K 1 := by unfold Does; rw [outOf_ne m 1 (by decide)]; exact body_keep K 1 _ _ _ _ (body_one (DC₀ m) (SC₀ m) K)
theorem does_two : Does m K 2 := by unfold Does; rw [outOf_ne m 2 (by decide)]; exact body_keep K 2 _ _ _ _ (body_two (DC₀ m) (SC₀ m) K)
theorem does_three : Does m K 3 := by unfold Does; rw [outOf_ne m 3 (by decide)]; exact body_keep K 3 _ _ _ _ (body_three (DC₀ m) (SC₀ m) K)

theorem body_all (c : Dev nD) : Does m K c := by
  have h : c = 0 ∨ c = 1 ∨ c = 2 ∨ c = 3 := by revert c; decide
  rcases h with h | h | h | h
  · rw [h]; exact does_zero m K
  · rw [h]; exact does_one m K
  · rw [h]; exact does_two m K
  · rw [h]; exact does_three m K

end Body

/-! ## The pipeline's data -/

def start (c : Dev nD) : sProp 𝕄 := iprop(ready (DC₀ m) (SC₀ m) c ∗ crs c (waited c) ∗ levAts L lv)

def Φ₀ (c : Dev nD) : sProp 𝕄 := iprop(start m c ∗ scratch c)
def Φ₁ (c : Dev nD) : sProp 𝕄 := iprop((bigSep Finset.univ fun i : CI => semVal (cell c i) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (given m c).x
    | ⟨1, _⟩ => (given m c).wq
    | ⟨2, _⟩ => (given m c).k
    | ⟨3, _⟩ => (given m c).v
    | ⟨4, _⟩ => (given m c).wo
    | ⟨5, _⟩ => outBuf (outOf m c)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The block a whole window fetches is its array. -/
theorem before_0 (c : Dev nD) (d) : (dats m ρ 0 c).before (0 : Fin 6) t0_0 d = (given m c).x := by
  unfold Dat.before; rw [if_pos (fetch0_0 t0_0)]; exact funext fun i => congrArg (given m c).x (Rect.unit_zero_idx _ _ (fun a => Nat.zero_mul _) i)
theorem before_1 (c : Dev nD) (d) : (dats m ρ 0 c).before (1 : Fin 6) t0_0 d = (given m c).wq := by
  unfold Dat.before; rw [if_pos (fetch0_1 t0_0)]; exact funext fun i => congrArg (given m c).wq (Rect.unit_zero_idx _ _ (fun a => Nat.zero_mul _) i)
theorem before_2 (c : Dev nD) (d) : (dats m ρ 0 c).before (2 : Fin 6) t0_0 d = (given m c).k := by
  unfold Dat.before; rw [if_pos (fetch0_2 t0_0)]; exact funext fun i => congrArg (given m c).k (Rect.unit_zero_idx _ _ (fun a => Nat.zero_mul _) i)
theorem before_3 (c : Dev nD) (d) : (dats m ρ 0 c).before (3 : Fin 6) t0_0 d = (given m c).v := by
  unfold Dat.before; rw [if_pos (fetch0_3 t0_0)]; exact funext fun i => congrArg (given m c).v (Rect.unit_zero_idx _ _ (fun a => Nat.zero_mul _) i)
theorem before_4 (c : Dev nD) (d) : (dats m ρ 0 c).before (4 : Fin 6) t0_0 d = (given m c).wo := by
  unfold Dat.before; rw [if_pos (fetch0_4 t0_0)]; exact funext fun i => congrArg (given m c).wo (Rect.unit_zero_idx _ _ (fun a => Nat.zero_mul _) i)

theorem stg_eq (c : Dev nD) (b : Ref sig .tc) (X : b.ty.Contents (Elt F)) : (stg c b X : sProp 𝕄) = (((c : Thread nD τ).loc b) ↦{fullShare} X : sProp 𝕄) := by
  refine BI.Entails.antisymm ?_ ?_
  · show iprop(∃ f : Buf (Elt F) ((c : Thread nD τ).loc b), ⌜f = X⌝ ∗ (((c : Thread nD τ).loc b) ↦{fullShare} f)) ⊢ (((c : Thread nD τ).loc b) ↦{fullShare} X : sProp 𝕄)
    iintro ⟨%f, %hf, H⟩
    subst hf
    iexact H
  · show (((c : Thread nD τ).loc b) ↦{fullShare} X : sProp 𝕄) ⊢ iprop(∃ f : Buf (Elt F) ((c : Thread nD τ).loc b), ⌜f = X⌝ ∗ (((c : Thread nD τ).loc b) ↦{fullShare} f))
    iintro H
    iexists X
    isplitr; · (ipureintro; rfl)
    iexact H

/-- The staged inputs one by one. -/
theorem inputs_stg (c : Dev nD) (I : Staged F) :
    iprop(stg c cc0_stg0_0 I.x ∗ stg c cc0_stg1_0 I.wq ∗ stg c cc0_stg2_0 I.k ∗ stg c cc0_stg3_0 I.v ∗ stg c cc0_stg4_0 I.wo) = (inputs c I : sProp 𝕄) := by
  rw [stg_eq, stg_eq, stg_eq, stg_eq, stg_eq]; rfl

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ
    ∗ stg c cc0_stg0_0 (given m c).x ∗ stg c cc0_stg1_0 (given m c).wq ∗ stg c cc0_stg2_0 (given m c).k ∗ stg c cc0_stg3_0 (given m c).v
    ∗ stg c cc0_stg4_0 (given m c).wo ∗ stg c cc0_stg5_0 (outBuf (outOf m c)))

theorem bodyPre_elim (c : Dev nD) : bodyPre m ρ c ⊢ iprop(∃ K, records (DC₀ m) (SC₀ m) K ∗ levAts L lv ∗ bodyIn (F := F) c ∗ inputs c (given m c)) := by
  unfold bodyPre Φ₀ start ready toks bodyIn plan Dat.owesAt Pipeline.owesWithin
  rw [show (dats m ρ 0 c).owed t0_0.castSucc = O₀ c from rfl]
  simp only [before_0, before_1, before_2, before_3, before_4]
  rw [← inputs_stg c (given m c)]
  iintro ⟨⟨⟨⟨%K, #HR, Hg, Ht⟩, Hc, #Hlev⟩, Hs⟩, ⟨%W, -, HO⟩, ⟨%d0, H0⟩, ⟨%d1, H1⟩, ⟨%d2, H2⟩, ⟨%d3, H3⟩, ⟨%d4, H4⟩, ⟨%d5, %f5, -, H5⟩⟩
  iexists K
  isplitr; · iexact HR
  isplitr; · iexact Hlev
  isplitl [Hg Ht Hc Hs HO H5]
  · isplitl [Hg]; · iexact Hg
    isplitl [HO Ht]
    · isplitl [HO]; · iexists W; iexact HO
      iexact Ht
    isplitl [Hc]; · iexact Hc
    isplitl [Hs]; · iexact Hs
    iexists f5; iexact H5
  isplitl [H0]; · iexact H0
  isplitl [H1]; · iexact H1
  isplitl [H2]; · iexact H2
  isplitl [H3]; · iexact H3
  iexact H4

theorem bodyPost_intro (c : Dev nD) : iprop(bodyOut c (outOf m c) ∗ inputs c (given m c)) ⊢ bodyPost m ρ c := by
  unfold bodyPost Φ₁ bodyOut plan Dat.owesAt Pipeline.owesWithin
  rw [show (dats m ρ 0 c).owed t0_0.succ = 0 from rfl, ← inputs_stg c (given m c)]
  iintro ⟨⟨Hz, ⟨⟨%W, HO⟩, -⟩, Hs, H5⟩, H0, H1, H2, H3, H4⟩
  isplitl [Hz Hs]
  · isplitl [Hz]; · iexact Hz
    iexact Hs
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexists _; isplitr; · (ipureintro; rfl)
  iexact H5

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (theBody (F := F)) (fun _ => bodyPost m ρ c)
  refine (bodyPre_elim m ρ c).trans ?_
  iintro ⟨%K, H⟩
  iapply (wp_mono _ _ _ fun _ => bodyPost_intro m ρ c)
  iapply (show _ ⊢ _ from body_all m K c) $$ H

/-! ## The launch -/

def u₀ : UU :=
  (initOf (Pipeline.cells cfgs cellOf_inj) (Pipeline.launchToks cfgs cellOf_inj), initOf ringCells ringToks)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (DC₀ m) (SC₀ m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨⟨Hu, Ho⟩, Hr⟩
  isplitl [Hu]; · iexact Hu
  isplitl [Ho]; · iexact Ho
  iexact Hr

theorem pays_above : ∀ c : Dev nD, ∀ x ∈ pays c, 0 < lvI x.1 x.2 := by decide

/-- The pipeline's own waits, on the staging semaphores, are below everything owed. -/
theorem mayWait_stage (c : Dev nD) (q : DmaSem sig) (hq : lv ((c : Thread nD τ), .dma q) () = 0) (O : CellTallies nD τ sig Unit)
    (hO : O = O₀ c ∨ O = 0) : (levAts L lv : sProp 𝕄) ⊢ MayWait (c : Thread nD τ) (.dma q) () O := by
  rcases hO with rfl | rfl
  · refine mayWait_lt (F := F) c (.dma q) 0 (pays c) hq ?_
    exact pays_above c
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run ends with each array at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt (DC₀ m) (SC₀ m)) (G' := ready (DC₀ m) (SC₀ m)) (u₀ := u₀)
    (hu₀ := by
      unfold u₀
      iintro Hu
      ihave H := (ownU_pair _ _) $$ Hu
      icases H with ⟨HP, HX⟩
      imod (fund_ring (DC₀ m) (SC₀ m)) $$ HX with HG
      imodintro
      isplitl [HP] <;> iassumption)
    (hglob := glob (DC₀ m) (SC₀ m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand holds what it held. -/
theorem finalA_in (c : Dev nD) (w : Fin cfg0.W) (h : w.val < 5) : finalA m ρ c w = (s₀ m ρ).mem ((cfg0.win w).arr.view.loc (c : Thread nD τ)) :=
  (dats (F := F) m ρ 0 c).arrAt_in w (by revert w; decide) _

/-- Reading the result's whole block is reading the result. -/
theorem read_out (f : ((cfg0.win (5 : Fin 6)).blk t0_0).view.ty.Contents (Elt F)) :
    ((cfg0.win (5 : Fin 6)).blk t0_0).view.read (Elt F) f = f :=
  funext fun i => congrArg f (Rect.unit_zero_idx _ _ (fun a => Nat.zero_mul _) i)

/-- The result holds the rows computed. -/
theorem finalA_out (c : Dev nD) : finalA m ρ c (5 : Fin 6) = outBuf (outOf m c) := by
  unfold finalA
  rw [show cfg0.N = 0 + 1 from N_0, Dat.arrAt, dif_pos (by decide), if_pos (flush0_5 _)]
  have h := View.read_write_univ (v := ((cfg0.win (5 : Fin 6)).blk t0_0).view) ((dats m ρ 0 c).arrAt (5 : Fin 6) 0) ((dats m ρ 0 c).flushed (5 : Fin 6) t0_0)
  exact (read_out _).symm.trans h

end Cert.Attn

end
-- ==== Proof.Frames.lean ====
/-
The runs leave their operands unchanged and every counter at zero: the program with named constants at the ideal numbers,
and, a named constant read as its own literal, the program itself at the machine's floats.
-/
module

public import proofs.«01_k».proof.Defs
public import proofs.«01_k».proof.Proof.Gen.Kernel
public import proofs.«01_k».proof.Proof.Launch

@[expose] public section

noncomputable section

namespace Cert.Attn

open Idealize.ShloMosaic Idealize.ShloMosaic.TcCoe Idealize.SL.Sem

/-- The run of the program with named constants, read at its operands. -/
theorem run_operands {F : FTy → Type} [FloatOps F] [Named F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c (0 : Fin 6)).trans (finalA_in m g c 0 (by decide)), (h.1 c (1 : Fin 6)).trans (finalA_in m g c 1 (by decide)),
      (h.1 c (2 : Fin 6)).trans (finalA_in m g c 2 (by decide)), (h.1 c (3 : Fin 6)).trans (finalA_in m g c 3 (by decide)),
      (h.1 c (4 : Fin 6)).trans (finalA_in m g c 4 (by decide))⟩, h.2⟩)
    (run_main m g)

/-- At the machine's floats a named constant reads as the literal it stands for. -/
abbrev literal : Named Bits where
  named _ _ {φ} bits := Scalar.ofBits φ bits

/-- `Cert.quiescent_KernelIdeal`. -/
theorem frame_kernelIdeal : Cert.quiescent_KernelIdeal := fun m g _ => run_operands m g

set_option maxHeartbeats 4000000 in
/-- The two bodies are one, a named constant read as its literal. -/
theorem body_eq : @Cert.Kernel.cc0_body Bits _ Cert.Kernel.Gen.facts = @Cert.KernelIdeal.cc0_body Bits _ literal Cert.KernelIdeal.Gen.facts := rfl

set_option maxHeartbeats 4000000 in
/-- The two tables of bodies are one. -/
theorem defs0_eq : @Cert.Kernel.defs₀ Bits _ Cert.Kernel.Gen.facts = @Cert.KernelIdeal.defs₀ Bits _ literal Cert.KernelIdeal.Gen.facts := by
  unfold Cert.Kernel.defs₀ Cert.KernelIdeal.defs₀
  refine congrArg Defs.onTc (funext fun l => funext fun a => ?_)
  match l, a with
  | 0, (t, s) => rfl

set_option maxHeartbeats 4000000 in
/-- So the tables with the pipelines' entries are one. -/
theorem defs_eq : @Cert.Kernel.defs Bits _ Cert.Kernel.Gen.facts = @Cert.KernelIdeal.defs Bits _ literal Cert.KernelIdeal.Gen.facts :=
  congrArg (Pipeline.defs (Cert.KernelIdeal.pcfgs (F := Bits))) defs0_eq

set_option maxHeartbeats 4000000 in
/-- `Cert.quiescent_Kernel`: the run of the program with named constants, at the machine's floats and the literals. -/
theorem frame_kernel : Cert.quiescent_Kernel := fun m g _ => by
  have h := @run_operands Bits _ literal m g
  rw [← defs_eq] at h
  exact h

end Cert.Attn

end
-- ==== Proof.Constants.lean ====
/-
The float constants the programs spell, as the extended reals their patterns denote.
-/
module

public import Idealize.ShloMosaic.PureOps.Ideal

@[expose] public section

noncomputable section

namespace Cert.Attn

open Idealize.ShloMosaic

/-- `127.0`, the codes' bound, -/
theorem ofBits_127 : Ideal.ofBits .f32 0x42FE0000#32 = 127 := by
  have h : Ideal.ofBits .f32 0x42FE0000#32 = ((127 : ℝ) : EReal) := by
    simp [Ideal.ofBits, Ideal.ieee, -EReal.coe_mul]; norm_num
  exact h
/-- `-128.0`, the codes' other bound, -/
theorem ofBits_neg128 : Ideal.ofBits .f32 0xC3000000#32 = -128 := by
  have h : Ideal.ofBits .f32 0xC3000000#32 = ((-128 : ℝ) : EReal) := by
    simp [Ideal.ofBits, Ideal.ieee, -EReal.coe_mul]; norm_num
  exact h
/-- `128.0`, a head's depth, -/
theorem ofBits_128 : Ideal.ofBits .f32 0x43000000#32 = ((128 : ℝ) : EReal) := by
  simp [Ideal.ofBits, Ideal.ieee, -EReal.coe_mul]; norm_num
/-- the least scale, which is positive, -/
theorem ofBits_tiny : 0 < Ideal.ofBits .f32 0x1E3CE508#32 := by
  have h : ∃ r : ℝ, 0 < r ∧ Ideal.ofBits .f32 0x1E3CE508#32 = (r : EReal) := by
    refine ⟨_, ?_, rfl⟩
    norm_num
    rw [if_neg (by decide)]
    positivity
  obtain ⟨r, h0, h⟩ := h
  rw [h]
  exact_mod_cast h0
/-- and minus infinity, at single precision, and infinity, at half. -/
theorem ofBits_bot : Ideal.ofBits .f32 0xFF800000#32 = ⊥ := rfl
theorem ofBits_top : Ideal.ofBits .bf16 0x7F80#16 = ⊤ := rfl

end Cert.Attn

end
-- ==== Proof.Quantise.lean ====
/-
The quantiser on one number: the code, its clipping and its image, over extended reals.
-/
module

public import proofs.«01_k».proof.Proof.Constants

@[expose] public section

noncomputable section

namespace Cert.Attn

open Idealize.ShloMosaic

/-- The greatest magnitude of a row, kept away from zero. -/
def peak (y : Fin 1024 → EReal) : EReal :=
  max (Finset.univ.fold max ⊥ (fun e => max (y e) (-(y e)))) (Ideal.ofBits .f32 0x1E3CE508#32)

theorem peak_pos (y : Fin 1024 → EReal) : 0 < peak y := lt_max_of_lt_right ofBits_tiny

/-- What a row's number becomes by way of its code. -/
def byCode (y a : EReal) : EReal := Ideal.div (min 127 (max (-128) (Ideal.liftRound Ideal.roundHalfEven (Ideal.div y a * 127))) * a) 127

/-- An eight-bit code read back is the rounded number clipped to the codes' range. -/
theorem code_read (z : EReal) :
    (((Ideal.fptosi 8 (Ideal.liftRound Ideal.roundHalfEven z)).toInt : ℝ) : EReal) = min 127 (max (-128) (Ideal.liftRound Ideal.roundHalfEven z)) := by
  have hb : ∀ k : ℤ, -128 ≤ k → k ≤ 127 → (BitVec.ofInt 8 k).toInt = k := by
    intro k h1 h2
    rw [BitVec.toInt_ofInt]
    exact Int.bmod_eq_of_le (by norm_num; omega) (by norm_num; omega)
  induction z using EReal.rec with
  | bot =>
    have h : Ideal.fptosi 8 (Ideal.liftRound Ideal.roundHalfEven ⊥) = BitVec.ofInt 8 (-128) := rfl
    rw [h, hb _ (by norm_num) (by norm_num)]
    show _ = min 127 (max (-128) ⊥)
    have hn : ((-128 : ℝ) : EReal) = -128 := rfl
    rw [max_eq_left bot_le, min_eq_right (by rw [← hn]; exact (EReal.coe_le_coe_iff (x := -128) (y := 127)).2 (by norm_num)), ← hn]
    congr 1
    norm_num
  | top =>
    have h : Ideal.fptosi 8 (Ideal.liftRound Ideal.roundHalfEven ⊤) = BitVec.ofInt 8 127 := rfl
    rw [h, hb _ (by norm_num) (by norm_num)]
    show _ = min 127 (max (-128) ⊤)
    rw [max_eq_right le_top, min_eq_left le_top]
    norm_cast
  | coe r =>
    have h : Ideal.fptosi 8 (Ideal.liftRound Ideal.roundHalfEven (r : EReal)) = BitVec.ofInt 8 (max (-128) (min 127 (Ideal.roundHalfEven r))) := by
      show BitVec.ofInt 8 (max _ (min _ (if (0 : ℝ) ≤ ((Ideal.roundHalfEven r : ℤ) : ℝ) then ⌊((Ideal.roundHalfEven r : ℤ) : ℝ)⌋ else ⌈((Ideal.roundHalfEven r : ℤ) : ℝ)⌉))) = _
      rw [Int.floor_intCast, Int.ceil_intCast, ite_self]
      rfl
    rw [h, hb _ (by omega) (by omega)]
    show _ = min 127 (max (-128) (((Ideal.roundHalfEven r : ℤ) : ℝ) : EReal))
    have e : max (-128) (min 127 (Ideal.roundHalfEven r)) = min 127 (max (-128) (Ideal.roundHalfEven r)) := by omega
    rw [e]
    push_cast
    rfl

/-- The code's scaled image, the kernel's way and the quantiser's. -/
theorem byCode_eq (y a : EReal) (h : 0 < a) :
    (((Ideal.fptosi 8 (Ideal.liftRound Ideal.roundHalfEven (y * Ideal.div 127 a))).toInt : ℝ) : EReal) * (a * ((1 / 127 : ℝ) : EReal))
      = byCode y a := by
  have e : y * Ideal.div 127 a = Ideal.div y a * 127 := by
    unfold Ideal.div
    rw [if_neg h.ne', if_neg h.ne', mul_comm (127 : EReal), ← mul_assoc]
  have e' : ∀ x : EReal, Ideal.div x 127 = x * ((1 / 127 : ℝ) : EReal) := fun x => Ideal.div_coe (y := 127) (by norm_num) x
  unfold byCode
  rw [code_read, e, e', mul_assoc]

end Cert.Attn

end
-- ==== Proof.Parts.lean ====
/-
What each operation of the kernel holds at an index, over the extended reals.
-/
module

public import proofs.«01_k».proof.Proof.Values
public import Idealize.ShloMosaic.Lib.MatmulPlain
public import Idealize.ShloMosaic.Lib.ValueLayout
public import proofs.«01_k».proof.Proof.Quantise
public import Idealize.ShloMosaic.Lib.Pointwise

@[expose] public section

noncomputable section

namespace Cert.Attn

open Cert.KernelIdeal Cert.KernelIdeal.Gen Idealize.ShloMosaic

/-- The queries: a row of the tokens against a column of their weights. -/
theorem pay4_apply (x : FVec Ideal S1x1024x1024 .bf16) (wq : FVec Ideal S1024x1024 .bf16) (i c : Fin 1024) :
    k0_pay4 x wq (ix2 i c) = ∑ t : Fin 1024, x (ix3 0 i t) * wq (ix2 t c) := by
  unfold k0_pay4
  simp only [pointwise]
  exact zero_add _

/-- The keys laid out with head and depth on one axis, -/
theorem pay2_apply (k : FVec Ideal S1x1024x8x128 .bf16) (j c : Fin 1024) :
    k0_pay2 k (ix3 0 j c) = k (ix4 0 j ⟨c.val / 128, by omega⟩ ⟨c.val % 128, by omega⟩) := by
  unfold k0_pay2
  simp only [pointwise]

/-- the values likewise, -/
theorem pay3_apply (k : FVec Ideal S1x1024x8x128 .bf16) (j c : Fin 1024) :
    k0_pay3 k (ix3 0 j c) = k (ix4 0 j ⟨c.val / 128, by omega⟩ ⟨c.val % 128, by omega⟩) := by
  unfold k0_pay3
  simp only [pointwise]

/-- and the output weights as they are. -/
theorem pay5_apply (w : FVec Ideal S1024x1024 .bf16) : k0_pay5 w = w := by
  unfold k0_pay5
  simp only [pointwise]

theorem rows_apply (kv : Fin 2 → Vec Ideal S1x1024x1024 .bf16) (b : Fin 2) (r n : ℕ) (hr : r + n ≤ 1024) (h : Fin 8) (j : Fin n) (d : Fin 128) :
    rows kv b r n hr h (ix2 j d) = kv b (ix3 0 ⟨r + j.val, by omega⟩ ⟨128 * h.val + d.val, by omega⟩) := by
  have e : (Shape.reshapeEquiv (castsRows n)) (ix2 j d) = (ix3 0 j d : (⟨3, ![1, n, 128]⟩ : Shape).Idx) := by
    show _ = (ValueIdx.ix3 0 j d : (⟨3, ![1, n, 128]⟩ : Shape).Idx)
    exact ValueIdx.reshapeEquiv_ix2_1ab _ j d
  show kvBuf kv ((Rect.unit (s := S2x1024x1024) ![b.val, r, 128 * h.val] (⟨3, ![1, n, 128]⟩ : Shape).size (inbRows b r n h hr)).toLoadRect.idx ((Shape.reshapeEquiv (castsRows n)) (ix2 j d))) = _
  rw [e]
  unfold kvBuf
  refine congrArg₂ kv (Fin.ext (by show b.val + 1 * 0 = b.val; omega)) (funext fun a => ?_)
  match a with
  | 0 => rfl
  | 1 => exact Fin.ext (by show r + 1 * j.val = r + j.val; omega)
  | 2 => exact Fin.ext (by show 128 * h.val + 1 * d.val = 128 * h.val + d.val; omega)

theorem queries_apply (q : FVec Ideal S1024x1024 .bf16) (r : ℕ) (hr : r + 256 ≤ 1024) (h : Fin 8) (i : Fin 256) (d : Fin 128) :
    queries q r hr h (ix2 i d) = q (ix2 ⟨r + i.val, by omega⟩ ⟨128 * h.val + d.val, by omega⟩) := by
  unfold queries
  simp only [pointwise]
  exact congrArg q (congrArg₂ ix2 (Fin.ext (by show r + (0 + i.val) = r + i.val; omega)) (Fin.ext (by show 0 + (128 * h.val + d.val) = 128 * h.val + d.val; omega)))

theorem scale_eq : Named.named (F := Ideal) κ "scale" (φ := .f32) 0x3DB504F3#32 = (((√128)⁻¹ : ℝ) : EReal) :=
  IdealRules.named_const.ideal_named_scalar _ _ _ _ rfl
theorem inv127_eq : Named.named (F := Ideal) κ "inv127" (φ := .f32) 0x3C010204#32 = ((1 / 127 : ℝ) : EReal) :=
  IdealRules.named_const.ideal_named_scalar _ _ _ _ rfl

theorem expScores_apply (n : ℕ) (q : FVec Ideal S256x128 .bf16) (k : FVec Ideal ⟨2, ![n, 128]⟩ .bf16) (i : Fin 256) (j : Fin n) :
    expScores n q k (ix2 i j) = Ideal.exp ((∑ d : Fin 128, q (ix2 i d) * k (ix2 j d)) * (((√128)⁻¹ : ℝ) : EReal)) := by
  have e := Ideal.matmul_transposedRhs_apply none q k (constant _ .f32 0x00000000#32) i j
  unfold expScores
  show Ideal.exp (FloatOps.matmul (DotDims.transposedRhs 256 128 n) none q k (constant _ .f32 0x00000000#32) (ValueIdx.ix2 i j) * _) = _
  rw [e]
  show Ideal.exp ((Ideal.ofBits .f32 0x00000000#32 + _) * Named.named (F := Ideal) κ "scale" (φ := .f32) 0x3DB504F3#32) = _
  rw [scale_eq, Ideal.ofBits_zero_f32, zero_add]
  rfl

/-- A position's block of 64, as the kernel finds it in words. -/
def blockWord (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem blockWord_eq : ∀ i : Fin 256, blockWord (BitVec.ofNat 32 i.val) = BitVec.ofNat 32 (i.val / 64) := by decide +kernel

theorem mask_apply (i j : Fin 256) : mask (ix2 i j) = if j.val / 64 ≤ i.val / 64 then 1#1 else 0#1 := by
  have e : mask (ix2 i j) = IntOp.cmpi .sle (blockWord (BitVec.ofNat 32 (List.foldl (fun n a => n * ![256, 256] a + (ix2 i j a).val) 0 [1])))
      (blockWord (BitVec.ofNat 32 (List.foldl (fun n a => n * ![256, 256] a + (ix2 i j a).val) 0 [0]))) := by
    unfold mask k0_pay8 k0_pay6 k0_pay7 blockWord
    simp only [pointwise]
  have h0 : List.foldl (fun n a => n * ![256, 256] a + (ix2 i j a).val) 0 [0] = i.val := Nat.zero_add _
  have h1 : List.foldl (fun n a => n * ![256, 256] a + (ix2 i j a).val) 0 [1] = j.val := Nat.zero_add _
  have hc : ∀ a b : Fin 4, IntOp.cmpi .sle (BitVec.ofNat 32 a.val) (BitVec.ofNat 32 b.val) = if a.val ≤ b.val then 1#1 else 0#1 := by decide +kernel
  rw [e, h0, h1, blockWord_eq, blockWord_eq]
  exact hc ⟨j.val / 64, by omega⟩ ⟨i.val / 64, by omega⟩

theorem mix_apply (n : ℕ) (w : FVec Ideal ⟨2, ![256, n]⟩ .f32) (v : FVec Ideal ⟨2, ![n, 128]⟩ .bf16) (i : Fin 256) (d : Fin 128) :
    mix n w v (ix2 i d) = ∑ j : Fin n, w (ix2 i j) * v (ix2 j d) := by
  unfold mix
  refine (Ideal.matmul_plain_apply none _ v (constant _ .f32 0x00000000#32) i d).trans ?_
  show Ideal.ofBits .f32 0x00000000#32 + _ = _
  rw [Ideal.ofBits_zero_f32, zero_add]
  rfl

theorem total_apply (n : ℕ) (w : FVec Ideal ⟨2, ![256, n]⟩ .f32) (i : Fin 256) : total n w (ix2 i 0) = ∑ j : Fin n, w (ix2 i j) := by
  unfold total
  simp only [pointwise]

theorem normal_apply (m : FVec Ideal S256x128 .f32) (t : FVec Ideal S256x1 .f32) (i : Fin 256) (d : Fin 128) :
    normal m t (ix2 i d) = m (ix2 i d) * Ideal.div 1 (t (ix2 i 0)) := by
  unfold normal
  simp only [pointwise]
  rfl

theorem ownWeights_apply (q k : FVec Ideal S256x128 .bf16) (i j : Fin 256) :
    ownWeights q k (ix2 i j) = if j.val / 64 ≤ i.val / 64 then expScores 256 q k (ix2 i j) else 0 := by
  unfold ownWeights
  simp only [pointwise]
  rw [mask_apply]
  split
  · rfl
  · rfl

/-- The output of a chunk: its context against the output weights. -/
theorem pay23_apply (wo : FVec Ideal S1024x1024 .bf16) (ctx : FVec Ideal S256x1024 .bf16) (i : Fin 256) (e : Fin 1024) :
    k0_pay23 wo ctx (ix2 i e) = ∑ t : Fin 1024, ctx (ix2 i t) * wo (ix2 t e) := by
  unfold k0_pay23
  simp only [pointwise]
  exact zero_add _

theorem pay27_apply (y : FVec Ideal S256x1024 .f32) (i : Fin 256) (e : Fin 1024) : k0_pay27 y (ix3 0 i e) = y (ix2 i e) := by
  unfold k0_pay27
  simp only [pointwise]

theorem pay24_apply (wo : FVec Ideal S1024x1024 .bf16) (ctx : FVec Ideal S256x1024 .bf16) (i : Fin 256) :
    k0_pay24 wo ctx (ix2 i 0) = peak (fun e => k0_pay23 wo ctx (ix2 i e)) := by
  unfold k0_pay24
  simp only [pointwise]
  rfl

theorem pay25_apply (wo : FVec Ideal S1024x1024 .bf16) (ctx : FVec Ideal S256x1024 .bf16) (i : Fin 256) (e : Fin 1024) :
    k0_pay25 wo ctx (ix3 0 i e) = Ideal.fptosi 8 (Ideal.liftRound Ideal.roundHalfEven (k0_pay23 wo ctx (ix2 i e) * Ideal.div 127 (k0_pay24 wo ctx (ix2 i 0)))) := by
  unfold k0_pay25
  simp only [pointwise]
  rw [ofBits_127]
  rfl

theorem pay26_apply (wo : FVec Ideal S1024x1024 .bf16) (ctx : FVec Ideal S256x1024 .bf16) (i : Fin 256) :
    k0_pay26 wo ctx (ix3 0 i 0) = k0_pay24 wo ctx (ix2 i 0) * ((1 / 127 : ℝ) : EReal) := by
  unfold k0_pay26
  simp only [pointwise]
  rw [inv127_eq]

theorem deq_apply (c : Vec Ideal S1x256x1024 .i8) (s : Vec Ideal S1x256x1 .f32) (i : Fin 256) (e : Fin 1024) :
    k0_pay165 (k0_pay164 c s) (ix3 0 i e) = (((c (ix3 0 i e)).toInt : ℝ) : EReal) * s (ix3 0 i 0) := by
  unfold k0_pay165 k0_pay164
  simp only [pointwise]
  rfl

theorem context_apply (q : FVec Ideal S1024x1024 .bf16) (kv : Fin 2 → Vec Ideal S1x1024x1024 .bf16) (k : Fin 4) (i : Fin 256) (c : Fin 1024) :
    context q kv k (ix2 i c) = head q kv k ⟨c.val / 128, by omega⟩ (ix2 i ⟨c.val % 128, by omega⟩) := by
  have e : (![256, 128] : Fin 2 → ℕ) 1 = 128 := rfl
  have key : ∀ (h : Fin 8) (d : Fin 128), c.val = 128 * h.val + d.val → head q kv k h (ix2 i d) = head q kv k ⟨c.val / 128, by omega⟩ (ix2 i ⟨c.val % 128, by omega⟩) := by
    intro h d hc
    exact congrArg₂ (fun h d => head q kv k h (ix2 i d)) (Fin.ext (by show h.val = c.val / 128; omega)) (Fin.ext (by show d.val = c.val % 128; omega))
  unfold context
  simp only [pointwise, e]
  split_ifs with h0 h1 h2 h3 h4 h5 h6 h7
  all_goals first
    | exact absurd (by assumption) (show ¬ ((0 : Fin 2).val = (1 : Fin 2).val) by decide)
    | exact key _ _ (by show c.val = 128 * _ + _; simp only [Fin.isValue, Fin.val_ofNat]; omega)

end Cert.Attn

end
-- ==== Proof.Softmax.lean ====
/-
A softmax's weighted mean, with the maximum subtracted from the scores or not, over extended reals: the scores attended to
are real, the values are any.
-/
module

public import Idealize.ShloMosaic.PureOps.Ideal

@[expose] public section

noncomputable section

namespace Cert.Attn

open Idealize.ShloMosaic

/-- The weight of a score. -/
def weight (p : Prop) [Decidable p] (s : EReal) : EReal := if p then Ideal.exp s else 0

/-- The score, where attended to. -/
def masked (p : Prop) [Decidable p] (s : EReal) : EReal := if p then s else ⊥

/-- A nonnegative real factor goes into a sum. -/
theorem sum_mul_real {ι : Type} (t : Finset ι) (f : ι → EReal) {c : EReal} (h0 : 0 ≤ c) (h1 : c ≠ ⊤) : (∑ j ∈ t, f j) * c = ∑ j ∈ t, f j * c := by
  classical
  induction t using Finset.induction_on with
  | empty => simp
  | insert a t ha ih => rw [Finset.sum_insert ha, Finset.sum_insert ha, EReal.right_distrib_of_nonneg_of_ne_top h0 h1, ih]

variable {n : ℕ} (p : Fin n → Prop) [DecidablePred p]

/-- The greatest of the scores attended to is real. -/
theorem max_real (s : Fin n → ℝ) (hp : ∃ j, p j) :
    ∃ M : ℝ, (Finset.univ : Finset (Fin n)).fold max ⊥ (fun j => masked (p j) (s j : EReal)) = (M : EReal) := by
  obtain ⟨j, hj⟩ := hp
  have h1 : (Finset.univ : Finset (Fin n)).fold max ⊥ (fun j => masked (p j) (s j : EReal)) < ⊤ := by
    rw [Finset.fold_max_lt]
    refine ⟨bot_lt_top, fun l _ => ?_⟩
    unfold masked
    split
    · exact EReal.coe_lt_top _
    · exact bot_lt_top
  have h2 : ⊥ < (Finset.univ : Finset (Fin n)).fold max ⊥ (fun j => masked (p j) (s j : EReal)) := by
    rw [Finset.lt_fold_max]
    refine Or.inr ⟨j, Finset.mem_univ _, ?_⟩
    unfold masked
    rw [if_pos hj]
    exact EReal.bot_lt_coe _
  exact ⟨_, (EReal.coe_toReal h1.ne h2.ne').symm⟩

/-- The weights are real, -/
theorem weight_real (p : Prop) [Decidable p] (s : ℝ) : weight p (s : EReal) = ((if p then Real.exp s else 0 : ℝ) : EReal) := by
  unfold weight
  split
  · rfl
  · rfl

/-- and an exponential of a score less a real is the weight times a real. -/
theorem exp_masked (p : Prop) [Decidable p] (s M : ℝ) :
    Ideal.exp (masked p (s : EReal) - (M : EReal)) = (((if p then Real.exp s else 0) * Real.exp (-M) : ℝ) : EReal) := by
  unfold masked
  split
  · rw [← EReal.coe_sub]
    show ((Real.exp (s - M) : ℝ) : EReal) = _
    rw [← Real.exp_add, sub_eq_add_neg]
  · rw [zero_mul]
    rfl

theorem coe_sum {ι : Type} (t : Finset ι) (f : ι → ℝ) : ∑ j ∈ t, (f j : EReal) = ((∑ j ∈ t, f j : ℝ) : EReal) :=
  (map_sum (⟨⟨Real.toEReal, EReal.coe_zero⟩, EReal.coe_add⟩ : ℝ →+ EReal) f t).symm

/-- The mean under the normalised exponentials of the scores less their maximum is the mean under the weights. -/
theorem soft_mean (s : Fin n → ℝ) (v : Fin n → EReal) (hp : ∃ j, p j) :
    ∑ j, v j * Ideal.div (Ideal.exp (masked (p j) (s j : EReal) - (Finset.univ : Finset (Fin n)).fold max ⊥ (fun j => masked (p j) (s j : EReal))))
        (∑ l, Ideal.exp (masked (p l) (s l : EReal) - (Finset.univ : Finset (Fin n)).fold max ⊥ (fun j => masked (p j) (s j : EReal))))
      = (∑ j, weight (p j) (s j : EReal) * v j) * Ideal.div 1 (∑ j, weight (p j) (s j : EReal)) := by
  obtain ⟨M, hM⟩ := max_real p s hp
  obtain ⟨j₀, hj₀⟩ := hp
  rw [hM]
  simp only [exp_masked, weight_real, coe_sum]
  have hT : 0 < ∑ j, (if p j then Real.exp (s j) else 0) :=
    Finset.sum_pos' (fun j _ => by split <;> [exact (Real.exp_pos _).le; exact le_rfl]) ⟨j₀, Finset.mem_univ _, by rw [if_pos hj₀]; exact Real.exp_pos _⟩
  have hC := Real.exp_pos (-M)
  rw [← Finset.sum_mul, Ideal.div_coe hT.ne', one_mul, sum_mul_real _ _ (by exact_mod_cast (one_div_pos.2 hT).le) (EReal.coe_ne_top _)]
  refine Finset.sum_congr rfl fun j _ => ?_
  rw [Ideal.div_coe (mul_pos hT hC).ne', ← EReal.coe_mul, mul_comm (v j), mul_right_comm _ (v j), ← EReal.coe_mul]
  congr 2
  field_simp

end Cert.Attn

end
-- ==== Proof.Heads.lean ====
/-
# What a head of a chunk holds

Each entry is the values' mean, under the exponentials of the scaled scores, over the keys of the query's block of 64 and the
blocks before it.
-/
module

public import proofs.«01_k».proof.Proof.Parts
public import proofs.«01_k».proof.Proof.Softmax

@[expose] public section

noncomputable section

namespace Cert.Attn

open Cert.KernelIdeal Cert.KernelIdeal.Gen Idealize.ShloMosaic

/-- A sum whose terms beyond the first `r + n` are zero, in two parts. -/
theorem sum_split {N : ℕ} (r n : ℕ) (h : r + n ≤ N) (f : Fin N → EReal) (hz : ∀ j : Fin N, r + n ≤ j.val → f j = 0) :
    ∑ j, f j = ∑ j : Fin n, f ⟨r + j.val, by omega⟩ + ∑ j : Fin r, f ⟨j.val, by omega⟩ := by
  obtain ⟨m, rfl⟩ := Nat.exists_eq_add_of_le h
  rw [Fin.sum_univ_add, Fin.sum_univ_add, Finset.sum_eq_zero (s := (Finset.univ : Finset (Fin m))) (fun j _ => hz _ (by simp)), add_zero, add_comm]
  rfl

/-- A query's score against a key. -/
def score (q k : Fin 128 → EReal) : EReal := (∑ d, q d * k d) * (((√128)⁻¹ : ℝ) : EReal)

/-- The mean of the values `v` under the weights of the scores `s`, over the keys a query of position `i` attends to. -/
def mean (n i : ℕ) (s v : Fin n → EReal) : EReal :=
  (∑ j, weight (j.val / 64 ≤ i / 64) (s j) * v j) * Ideal.div 1 (∑ j, weight (j.val / 64 ≤ i / 64) (s j))

variable (q : FVec Ideal S1024x1024 .bf16) (kv : Fin 2 → Vec Ideal S1x1024x1024 .bf16)

/-- The scores of the query at position `i`, head `h`. -/
def scoresAt (h : Fin 8) (i : Fin 1024) (j : Fin 1024) : EReal :=
  score (fun d => q (ix2 i ⟨128 * h.val + d.val, by omega⟩)) (fun d => kv 0 (ix3 0 j ⟨128 * h.val + d.val, by omega⟩))
/-- The values of head `h`, coordinate `d`. -/
def valuesAt (h : Fin 8) (d : Fin 128) (j : Fin 1024) : EReal := kv 1 (ix3 0 j ⟨128 * h.val + d.val, by omega⟩)

/-- The exponentials of `n` keys' scores. -/
theorem expScores_rows (r : ℕ) (hr : r + 256 ≤ 1024) (h : Fin 8) (b n : ℕ) (hb : b + n ≤ 1024) (i : Fin 256) (j : Fin n) :
    expScores n (queries q r hr h) (rows kv 0 b n hb h) (ix2 i j) = Ideal.exp (scoresAt q kv h ⟨r + i.val, by omega⟩ ⟨b + j.val, by omega⟩) := by
  rw [expScores_apply]
  simp only [queries_apply, rows_apply]
  rfl

theorem own_rows (r : ℕ) (hr : r + 256 ≤ 1024) (h64 : r % 64 = 0) (h : Fin 8) (i j : Fin 256) :
    ownWeights (queries q r hr h) (rows kv 0 r 256 hr h) (ix2 i j)
      = weight ((r + j.val) / 64 ≤ (r + i.val) / 64) (scoresAt q kv h ⟨r + i.val, by omega⟩ ⟨r + j.val, by omega⟩) := by
  rw [ownWeights_apply, expScores_rows]
  unfold weight
  exact if_congr (by omega) rfl rfl

/-- A chunk's sum over its own keys and those before it is the sum over all the keys. -/
theorem own_before (r : ℕ) (hr : r + 256 ≤ 1024) (h64 : r % 64 = 0) (h : Fin 8) (i : Fin 256) (v : Fin 1024 → EReal) :
    ∑ j, weight (j.val / 64 ≤ (r + i.val) / 64) (scoresAt q kv h ⟨r + i.val, by omega⟩ j) * v j
      = ∑ j : Fin 256, ownWeights (queries q r hr h) (rows kv 0 r 256 hr h) (ix2 i j) * v ⟨r + j.val, by omega⟩
        + ∑ j : Fin r, expScores r (queries q r hr h) (rows kv 0 0 r (by omega) h) (ix2 i j) * v ⟨j.val, by omega⟩ := by
  rw [sum_split r 256 hr]
  · refine congrArg₂ (· + ·) (Finset.sum_congr rfl fun j _ => ?_) (Finset.sum_congr rfl fun j _ => ?_)
    · rw [own_rows q kv r hr h64]
    · rw [expScores_rows]
      unfold weight
      rw [if_pos (show j.val / 64 ≤ (r + i.val) / 64 by omega)]
      simp only [Nat.zero_add]
  · intro j hj
    unfold weight
    rw [if_neg (by omega), zero_mul]

theorem headLater_apply (r : ℕ) (hr : r + 256 ≤ 1024) (h64 : r % 64 = 0) (h : Fin 8) (i : Fin 256) (d : Fin 128) :
    headLater q kv r hr h (ix2 i d) = mean 1024 (r + i.val) (scoresAt q kv h ⟨r + i.val, by omega⟩) (valuesAt kv h d) := by
  have e1 := own_before q kv r hr h64 h i (valuesAt kv h d)
  have e2 := own_before q kv r hr h64 h i (fun _ => 1)
  simp only [mul_one] at e2
  unfold mean
  rw [e1, e2]
  unfold headLater
  show normal (addf (mix 256 _ _) (mix r _ _)) (addf (total 256 _) (total r _)) (ix2 i d) = _
  rw [normal_apply]
  show (mix (F := Ideal) 256 _ _ (ix2 i d) + mix (F := Ideal) r _ _ (ix2 i d)) * Ideal.div 1 (total (F := Ideal) 256 _ (ix2 i 0) + total (F := Ideal) r _ (ix2 i 0)) = _
  rw [mix_apply, mix_apply, total_apply, total_apply]
  simp only [rows_apply kv 1, Nat.zero_add]
  rfl

theorem headFirst_apply (h : Fin 8) (i : Fin 256) (d : Fin 128) :
    headFirst q kv h (ix2 i d) = mean 1024 (0 + i.val) (scoresAt q kv h ⟨0 + i.val, by omega⟩) (valuesAt kv h d) := by
  rw [← headLater_apply q kv 0 (by decide) rfl]
  unfold headFirst headLater
  show normal (mix 256 _ _) (total 256 _) (ix2 i d) = normal (addf (mix 256 _ _) (mix 0 _ _)) (addf (total 256 _) (total 0 _)) (ix2 i d)
  rw [normal_apply, normal_apply]
  show _ = (mix (F := Ideal) 256 _ _ (ix2 i d) + mix (F := Ideal) 0 _ _ (ix2 i d)) * Ideal.div 1 (total (F := Ideal) 256 _ (ix2 i 0) + total (F := Ideal) 0 _ (ix2 i 0))
  rw [mix_apply 0, total_apply 0]
  simp only [Finset.univ_eq_empty, Finset.sum_empty, add_zero]

/-- A head's entry is the mean over all the keys its query attends to. -/
theorem head_apply (k : Fin 4) (h : Fin 8) (i : Fin 256) (d : Fin 128) :
    head q kv k h (ix2 i d) = mean 1024 (256 * k.val + i.val) (scoresAt q kv h ⟨256 * k.val + i.val, by omega⟩) (valuesAt kv h d) := by
  match k with
  | 0 => exact headFirst_apply q kv h i d
  | 1 => exact headLater_apply q kv 256 (by decide) rfl h i d
  | 2 => exact headLater_apply q kv 512 (by decide) rfl h i d
  | 3 => exact headLater_apply q kv 768 (by decide) rfl h i d

end Cert.Attn

end
-- ==== Proof.RefParts.lean ====
/-
# What the reference computes

Each stage of the reference over plain arrays, and what it holds at an index, over the extended reals.
-/
module

public import proofs.«01_k».proof.Proof.Gen.ReferenceIdeal.Run
public import proofs.«01_k».proof.Proof.Quantise
public import proofs.«01_k».proof.Proof.Softmax
public import Idealize.ShloMosaic.Lib.Pointwise
public import Idealize.ShloMosaic.PureOps.Reduce

@[expose] public section

noncomputable section

namespace Cert.Attn.Ref

open Cert.ReferenceIdeal Cert.ReferenceIdeal.Gen Cert.ReferenceIdeal.Value Idealize.ShloMosaic

/-! ## Which keys a query attends to -/

/-- A position's block of 64, as the reference finds it in words. -/
def blockWord (w : BitVec 32) : BitVec 32 :=
  Scalar.select
    (IntOp.andi
      (IntOp.cmpi .ne (if w = 0 then 0 else if w.msb = true then -1 else 1) (if 64#32 = 0 then (0 : BitVec 32) else if (64#32).msb = true then -1 else 1))
      (IntOp.cmpi .ne (IntOp.remsi .host w 64#32) 0#32))
    (IntOp.subi (IntOp.divsi .host w 64#32) 1#32) (IntOp.divsi .host w 64#32)

theorem blockWord_eq : ∀ i : Fin 4096, blockWord (BitVec.ofNat 32 i.val) = BitVec.ofNat 32 (i.val / 64) := by decide +kernel

theorem allowed_apply (V : Valuation τ sig (Elt Ideal)) (i : Fin 1024) (j : Fin 4096) :
    res_main_v11 V (ix2 i j) = if j.val / 64 ≤ i.val / 64 then 1#1 else 0#1 := by
  have e : res_main_v11 V (ix2 i j) = IntOp.cmpi .sle (blockWord (BitVec.ofNat 32 j.val)) (blockWord (BitVec.ofNat 32 i.val)) := by
    unfold res_main_v11 res_main_call0_v2 res_main_call0_v0 res_main_v3 res_main_call1_v2 res_main_v6 res_main_call1_v0 blockWord
    simp only [pointwise, id]
    rfl
  have hc : ∀ (a : Fin 64) (b : Fin 16), IntOp.cmpi .sle (BitVec.ofNat 32 a.val) (BitVec.ofNat 32 b.val) = if a.val ≤ b.val then 1#1 else 0#1 := by decide +kernel
  rw [e, blockWord_eq, blockWord_eq ⟨i.val, by omega⟩]
  exact hc ⟨j.val / 64, by omega⟩ ⟨i.val / 64, by omega⟩

/-- Whether a row keeps a key. -/
def keeps (m : IVec S1024x4096 1) : IVec S1024 1 := Host.reduce IntOp.ori m (constantI S_ 1 0#1) reducesTo_S1024x4096_S1024_d1 h_S_

theorem keeps_apply (m : IVec S1024x4096 1) (i : Fin 1024) (h : m (ix2 i 0) = 1#1) : keeps m (ix1 i) = 1#1 := by
  unfold keeps
  rw [Host.reduce_eq_fold (IntOp.ori (w := 1))]
  simp only [pointwise]
  rw [← Finset.insert_erase (Finset.mem_univ (0 : Fin 4096)), Finset.fold_insert (Finset.notMem_erase _ _), h]
  exact (by decide : ∀ z : BitVec 1, IntOp.ori 1#1 z = 1#1) _

/-! ## The scores and their exponentials -/

/-- The scaled scores where attended to, and minus infinity elsewhere. -/
def scores (x : FVec Ideal S1x1024x1024 .bf16) (wq : FVec Ideal S1024x1024 .bf16) (k : FVec Ideal S1x4096x8x128 .bf16) (m : IVec S1024x4096 1) : FVec Ideal S1x8x1024x4096 .f32 :=
  select (broadcastInDim S1x8x1024x4096 ![0, 1, 2, 3] bcast_S1x1x1024x4096_S1x8x1024x4096_0_1_2_3 (broadcastInDim S1x1x1024x4096 ![2, 3] bcast_S1024x4096_S1x1x1024x4096_2_3 m))
    (Host.divf (extf .f32 (truncf .bf16 (Host.dotGeneral (φ₁ := .bf16) dot_S1x1024x8x128_S1x4096x8x128_S1x8x1024x4096_3_3_1_1_02_02 none
        (shapeCast S1x1024x8x128 (truncf .bf16 (Host.dotGeneral dot_S1x1024x1024_S1024x1024_S1x1024x1024_2_0_01_1_n_n none x wq) bitsLt_bf16_f32) shapeCasts_S1x1024x1024_S1x1024x8x128) k)
        bitsLt_bf16_f32) bitsLt_bf16_f32)
      (broadcastInDim S1x8x1024x4096 ![] bcast_S_S1x8x1024x4096 (Host.sqrt (constant S_ .f32 0x43000000#32))))
    (broadcastInDim S1x8x1024x4096 ![] bcast_S_S1x8x1024x4096 (constant S_ .f32 0xFF800000#32))

/-- A query's coordinate: a row of the tokens against a column of the queries' weights. -/
def query (x : FVec Ideal S1x1024x1024 .bf16) (wq : FVec Ideal S1024x1024 .bf16) (i c : Fin 1024) : EReal :=
  ∑ t : Fin 1024, x (ix3 0 i t) * wq (ix2 t c)

/-- A query's score against a key. -/
def scoreAt (x : FVec Ideal S1x1024x1024 .bf16) (wq : FVec Ideal S1024x1024 .bf16) (k : FVec Ideal S1x4096x8x128 .bf16) (h : Fin 8) (i : Fin 1024) (j : Fin 4096) : EReal :=
  Ideal.div (∑ d : Fin 128, query x wq i ⟨128 * h.val + d.val, by omega⟩ * k (ix4 0 j h d)) ((√128 : ℝ) : EReal)

theorem scores_apply (x : FVec Ideal S1x1024x1024 .bf16) (wq : FVec Ideal S1024x1024 .bf16) (k : FVec Ideal S1x4096x8x128 .bf16) (m : IVec S1024x4096 1)
    (p : Prop) [Decidable p] (h : Fin 8) (i : Fin 1024) (j : Fin 4096) (hm : m (ix2 i j) = if p then 1#1 else 0#1) :
    scores x wq k m (ix4 0 h i j) = masked p (scoreAt x wq k h i j) := by
  have hp : Scalar.select (m (ix2 i j)) (scoreAt x wq k h i j) (⊥ : EReal) = masked p (scoreAt x wq k h i j) := by
    rw [hm]
    unfold masked
    split <;> rfl
  have hs : Ideal.sqrt ((128 : ℝ) : EReal) = ((√128 : ℝ) : EReal) := by
    rw [Ideal.sqrt_coe, if_neg (by norm_num)]
  rw [← hp]
  unfold scores scoreAt query
  simp only [pointwise, zero_add, ofBits_128, ofBits_bot, mul_comm _ 128, hs]
  rfl

/-- The exponentials of the scores less their row's greatest. -/
def exps (s : FVec Ideal S1x8x1024x4096 .f32) : FVec Ideal S1x8x1024x4096 .f32 :=
  Host.exp (subf s (broadcastInDim S1x8x1024x4096 ![0, 1, 2, 3] bcast_S1x8x1024x1_S1x8x1024x4096_0_1_2_3 (broadcastInDim S1x8x1024x1 ![0, 1, 2] bcast_S1x8x1024_S1x8x1024x1_0_1_2
    (Host.reduce FloatOps.maximumf s (constant S_ .f32 0xFF800000#32) reducesTo_S1x8x1024x4096_S1x8x1024_d3 h_S_))))

theorem exps_apply (s : FVec Ideal S1x8x1024x4096 .f32) (h : Fin 8) (i : Fin 1024) (j : Fin 4096) :
    exps s (ix4 0 h i j) = Ideal.exp (s (ix4 0 h i j) - Finset.univ.fold max ⊥ (fun l : Fin 4096 => s (ix4 0 h i l))) := by
  unfold exps
  simp only [pointwise, ofBits_bot]
  rfl

/-- The exponentials over their row's sum, where the row keeps a key. -/
def attended (keep : IVec S1024 1) (e : FVec Ideal S1x8x1024x4096 .f32) : FVec Ideal S1x8x1024x4096 .f32 :=
  select (broadcastInDim S1x8x1024x4096 ![0, 1, 2, 3] bcast_S1x1x1024x1_S1x8x1024x4096_0_1_2_3 (broadcastInDim S1x1x1024x1 ![2] bcast_S1024_S1x1x1024x1_2 keep))
    (Host.divf e (broadcastInDim S1x8x1024x4096 ![0, 1, 2, 3] bcast_S1x8x1024x1_S1x8x1024x4096_0_1_2_3
      (select (broadcastInDim S1x8x1024x1 ![0, 1, 2, 3] bcast_S1x1x1024x1_S1x8x1024x1_0_1_2_3 (broadcastInDim S1x1x1024x1 ![2] bcast_S1024_S1x1x1024x1_2 keep))
        (broadcastInDim S1x8x1024x1 ![0, 1, 2] bcast_S1x8x1024_S1x8x1024x1_0_1_2 (Host.reduceAdd e (constant S_ .f32 0x00000000#32) reducesTo_S1x8x1024x4096_S1x8x1024_d3 h_S_))
        (broadcastInDim S1x8x1024x1 ![] bcast_S_S1x8x1024x1 (constant S_ .f32 0x3F800000#32)))))
    (broadcastInDim S1x8x1024x4096 ![] bcast_S_S1x8x1024x4096 (constant S_ .f32 0x00000000#32))

theorem attended_apply (keep : IVec S1024 1) (e : FVec Ideal S1x8x1024x4096 .f32) (h : Fin 8) (i : Fin 1024) (j : Fin 4096) (hk : keep (ix1 i) = 1#1) :
    attended keep e (ix4 0 h i j) = Ideal.div (e (ix4 0 h i j)) (∑ l : Fin 4096, e (ix4 0 h i l)) := by
  have hr : Scalar.select (keep (ix1 i)) (Ideal.div (e (ix4 0 h i j)) (Scalar.select (keep (ix1 i)) (∑ l : Fin 4096, e (ix4 0 h i l)) 1)) 0
      = Ideal.div (e (ix4 0 h i j)) (∑ l : Fin 4096, e (ix4 0 h i l)) := by
    rw [hk]
    rfl
  rw [← hr]
  unfold attended
  simp only [pointwise, zero_add]
  rfl

/-! ## The output -/

/-- The values against the probabilities, head and depth on one axis. -/
def mixed (v : FVec Ideal S1x4096x8x128 .bf16) (a : FVec Ideal S1x8x1024x4096 .f32) : FVec Ideal S1x1024x1024 .f32 :=
  shapeCast S1x1024x1024 (transpose S1x1024x8x128 [0, 3, 1, 2]
    (Host.dotGeneral dot_S1x4096x8x128_S1x8x1024x4096_S1x8x128x1024_1_3_3_2_02_01 none (extf .f32 v bitsLt_bf16_f32) a) transposes_S1x8x128x1024_S1x1024x8x128_0_3_1_2)
    shapeCasts_S1x1024x8x128_S1x1024x1024

theorem mixed_apply (v : FVec Ideal S1x4096x8x128 .bf16) (a : FVec Ideal S1x8x1024x4096 .f32) (i c : Fin 1024) :
    mixed v a (ix3 0 i c) = ∑ j : Fin 4096, v (ix4 0 j ⟨c.val / 128, by omega⟩ ⟨c.val % 128, by omega⟩) * a (ix4 0 ⟨c.val / 128, by omega⟩ i j) := by
  unfold mixed
  simp only [pointwise]
  exact zero_add _

/-- The context against the output weights. -/
def projected (ctx : FVec Ideal S1x1024x1024 .f32) (wo : FVec Ideal S1024x1024 .bf16) : FVec Ideal S1x1024x1024 .f32 :=
  Host.dotGeneral dot_S1x1024x1024_S1024x1024_S1x1024x1024_2_0_01_1_n_n none ctx (extf .f32 wo bitsLt_bf16_f32)

theorem projected_apply (ctx : FVec Ideal S1x1024x1024 .f32) (wo : FVec Ideal S1024x1024 .bf16) (i e : Fin 1024) :
    projected ctx wo (ix3 0 i e) = ∑ c : Fin 1024, ctx (ix3 0 i c) * wo (ix2 c e) := by
  unfold projected
  simp only [pointwise]
  exact zero_add _

/-! ## The quantiser -/

/-- Each row's scale. -/
def peaks (y : FVec Ideal S1x1024x1024 .f32) : FVec Ideal S1x1024x1 .f32 :=
  maximumf (broadcastInDim S1x1024x1 ![0, 1] bcast_S1x1024_S1x1024x1_0_1 (Host.reduce FloatOps.maximumf (Host.absf y) (constant S_ .f32 0xFF800000#32) reducesTo_S1x1024x1024_S1x1024_d2 h_S_))
    (broadcastInDim S1x1024x1 ![] bcast_S_S1x1024x1 (constant S_ .f32 0x1E3CE508#32))

theorem peaks_apply (y : FVec Ideal S1x1024x1024 .f32) (i : Fin 1024) : peaks y (ix3 0 i 0) = peak (fun e => y (ix3 0 i e)) := by
  unfold peaks peak
  simp only [pointwise, ofBits_bot]
  rfl

/-- What the rows become by way of their codes. -/
def sentRows (y : FVec Ideal S1x1024x1024 .f32) (a : FVec Ideal S1x1024x1 .f32) : FVec Ideal S1x1024x1024 .f32 :=
  Host.divf (mulf (minimumf (broadcastInDim S1x1024x1024 ![] bcast_S_S1x1024x1024 (constant S_ .f32 0x42FE0000#32))
      (maximumf (broadcastInDim S1x1024x1024 ![] bcast_S_S1x1024x1024 (constant S_ .f32 0xC3000000#32))
        (Host.roundeven (mulf (Host.divf y (broadcastInDim S1x1024x1024 ![0, 1, 2] bcast_S1x1024x1_S1x1024x1024_0_1_2 a)) (broadcastInDim S1x1024x1024 ![] bcast_S_S1x1024x1024 (constant S_ .f32 0x42FE0000#32))))))
      (broadcastInDim S1x1024x1024 ![0, 1, 2] bcast_S1x1024x1_S1x1024x1024_0_1_2 a))
    (broadcastInDim S1x1024x1024 ![] bcast_S_S1x1024x1024 (constant S_ .f32 0x42FE0000#32))

theorem sentRows_apply (y : FVec Ideal S1x1024x1024 .f32) (a : FVec Ideal S1x1024x1 .f32) (i e : Fin 1024) :
    sentRows y a (ix3 0 i e) = byCode (y (ix3 0 i e)) (a (ix3 0 i 0)) := by
  unfold sentRows byCode
  simp only [pointwise, ofBits_127, ofBits_neg128]
  rfl

/-! ## The stages in a row -/

variable (V : Valuation τ sig (Elt Ideal))

/-- The tokens, -/
abbrev tokens : FVec Ideal S1x1024x1024 .bf16 := V (Proc.devRef .tc main_arg0)
/-- the queries' weights, -/
abbrev toQueries : FVec Ideal S1024x1024 .bf16 := V (Proc.devRef .tc main_arg1)
/-- the keys, -/
abbrev keys : FVec Ideal S1x4096x8x128 .bf16 := V (Proc.devRef .tc main_arg2)
/-- the values -/
abbrev vals : FVec Ideal S1x4096x8x128 .bf16 := V (Proc.devRef .tc main_arg3)
/-- and the output weights. -/
abbrev toOutput : FVec Ideal S1024x1024 .bf16 := V (Proc.devRef .tc main_arg4)

theorem v20_eq : res_main_v20 V = scores (tokens V) (toQueries V) (keys V) (res_main_v11 V) := rfl
theorem v25_eq : res_main_v25 V = exps (res_main_v20 V) := rfl
theorem v26_eq : res_main_v26 V = keeps (res_main_v11 V) := rfl
theorem v40_eq : res_main_v40 V = projected (mixed (vals V) (attended (res_main_v26 V) (res_main_v25 V))) (toOutput V) := rfl
theorem v45_eq : res_main_v45 V = peaks (res_main_v40 V) := rfl
theorem v55_eq : res_main_v55 V = sentRows (res_main_v40 V) (res_main_v45 V) := rfl

end Cert.Attn.Ref

end
-- ==== Proof.Equation.lean ====
/-
# The kernel's rows are the reference's

Device 0 attends with the exponentials of the scores themselves and over the keys it holds; the reference subtracts each
row's greatest score and goes over all the keys. Where the scores attended to are real, the two means are equal, and with
them the rows of the output and what the quantiser makes of them.
-/
module

public import proofs.«01_k».proof.Proof.Heads
public import proofs.«01_k».proof.Proof.RefParts
public import proofs.«01_k».proof.Proof.Inputs

@[expose] public section

noncomputable section

namespace Cert.Attn

open Idealize.ShloMosaic
open Cert.ReferenceIdeal.Value (res_main_v11 res_main_v20 res_main_v25 res_main_v26 res_main_v40 res_main_v45 res_main_v55)

/-! ## Real numbers among the extended ones -/

/-- Being a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} (t : Finset ι) (f : ι → EReal) (h : ∀ j, IsReal (f j)) : IsReal (∑ j ∈ t, f j) := by
  choose r hr using h
  exact ⟨∑ j ∈ t, r j, by rw [← coe_sum]; exact Finset.sum_congr rfl fun j _ => hr j⟩

/-! ## The two means -/

/-- The softmax's mean of `n` values for the query at position `i`, each score real where attended to. -/
theorem soft_mean_of {n : ℕ} (i : ℕ) (s v : Fin n → EReal) (hs : ∀ j : Fin n, j.val / 64 ≤ i / 64 → IsReal (s j)) (hi : i < n) :
    ∑ j, v j * Ideal.div (Ideal.exp (masked (j.val / 64 ≤ i / 64) (s j) - Finset.univ.fold max ⊥ (fun j : Fin n => masked (j.val / 64 ≤ i / 64) (s j))))
        (∑ l : Fin n, Ideal.exp (masked (l.val / 64 ≤ i / 64) (s l) - Finset.univ.fold max ⊥ (fun j : Fin n => masked (j.val / 64 ≤ i / 64) (s j))))
      = mean n i s v := by
  have hr : ∀ j : Fin n, j.val / 64 ≤ i / 64 → s j = ((s j).toReal : EReal) := by
    intro j hj
    obtain ⟨r, hr⟩ := hs j hj
    rw [hr, EReal.toReal_coe]
  have hm : ∀ j : Fin n, masked (j.val / 64 ≤ i / 64) (s j) = masked (j.val / 64 ≤ i / 64) ((s j).toReal : EReal) := by
    intro j
    unfold masked
    split
    · exact hr j ‹_›
    · rfl
  have hw : ∀ j : Fin n, weight (j.val / 64 ≤ i / 64) (s j) = weight (j.val / 64 ≤ i / 64) ((s j).toReal : EReal) := by
    intro j
    unfold weight
    split
    · exact congrArg Ideal.exp (hr j ‹_›)
    · rfl
  unfold mean
  simp only [hm, hw]
  exact soft_mean (fun j : Fin n => j.val / 64 ≤ i / 64) (fun j => (s j).toReal) v ⟨⟨i, hi⟩, le_refl _⟩

/-- A query among the first `n` positions, a multiple of 64, attends to no key beyond them. -/
theorem mean_restrict {n N : ℕ} (h : n ≤ N) (h64 : n % 64 = 0) (i : ℕ) (hi : i < n) (s v : Fin N → EReal) :
    mean N i s v = mean n i (fun j => s ⟨j.val, by omega⟩) (fun j => v ⟨j.val, by omega⟩) := by
  have e : ∀ u : Fin N → EReal, ∑ j, weight (j.val / 64 ≤ i / 64) (s j) * u j
      = ∑ j : Fin n, weight (j.val / 64 ≤ i / 64) (s ⟨j.val, by omega⟩) * u ⟨j.val, by omega⟩ := by
    intro u
    rw [sum_split 0 n (by omega)]
    · simp only [Finset.univ_eq_empty, Finset.sum_empty, add_zero, Nat.zero_add]
    · intro j hj
      unfold weight
      rw [if_neg (by omega), zero_mul]
  have e1 := e fun _ => 1
  simp only [mul_one] at e1
  unfold mean
  rw [e, e1]

/-! ## The equation -/

/-- A device's shard of the reference's arrays: the first 1024 keys and values, and the rest whole. -/
structure Same (I : Staged Ideal) (V : Valuation Cert.ReferenceIdeal.τ Cert.ReferenceIdeal.sig (Elt Ideal)) : Prop where
  x : I.x = Ref.tokens V
  wq : I.wq = Ref.toQueries V
  k : ∀ (j : Fin 1024) (h : Fin 8) (d : Fin 128), I.k (ix4 0 j h d) = Ref.keys V (ix4 0 ⟨j.val, by omega⟩ h d)
  v : ∀ (j : Fin 1024) (h : Fin 8) (d : Fin 128), I.v (ix4 0 j h d) = Ref.vals V (ix4 0 ⟨j.val, by omega⟩ h d)
  wo : I.wo = Ref.toOutput V

/-- The tokens, the queries' weights and the keys are real numbers. -/
structure RealIn (I : Staged Ideal) : Prop where
  x : ∀ i, IsReal (I.x i)
  wq : ∀ i, IsReal (I.wq i)
  k : ∀ i, IsReal (I.k i)

variable {I : Staged Ideal} {V : Valuation Cert.ReferenceIdeal.τ Cert.ReferenceIdeal.sig (Elt Ideal)} (S : Same I V) (R : RealIn I)

include S

/-- A score of the kernel is the reference's, -/
theorem score_eq (h : Fin 8) (i j : Fin 1024) :
    scoresAt I.q I.kv h i j = Ref.scoreAt (Ref.tokens V) (Ref.toQueries V) (Ref.keys V) h i ⟨j.val, by omega⟩ := by
  have hr : (√128 : ℝ) ≠ 0 := (Real.sqrt_pos.2 (by norm_num)).ne'
  unfold scoresAt score Ref.scoreAt Ref.query
  rw [Ideal.div_coe hr, one_div]
  refine congrArg (· * _) (Finset.sum_congr rfl fun d _ => ?_)
  show Cert.KernelIdeal.Gen.k0_pay4 I.x I.wq (ix2 i ⟨128 * h.val + d.val, _⟩) * Cert.KernelIdeal.Gen.k0_pay2 I.k (ix3 0 j ⟨128 * h.val + d.val, _⟩) = _
  rw [pay4_apply, pay2_apply, S.x, S.wq, ← S.k j h d]
  exact congrArg₂ (fun (h : Fin 8) (d : Fin 128) => _ * I.k (ix4 0 j h d)) (Fin.ext (by show (128 * h.val + d.val) / 128 = h.val; omega))
    (Fin.ext (by show (128 * h.val + d.val) % 128 = d.val; omega))

/-- and so is a value. -/
theorem value_eq (h : Fin 8) (d : Fin 128) (j : Fin 1024) : valuesAt I.kv h d j = Ref.vals V (ix4 0 ⟨j.val, by omega⟩ h d) := by
  rw [← S.v j h d]
  show Cert.KernelIdeal.Gen.k0_pay3 I.v (ix3 0 j ⟨128 * h.val + d.val, _⟩) = _
  rw [pay3_apply]
  exact congrArg₂ (fun (h : Fin 8) (d : Fin 128) => I.v (ix4 0 j h d)) (Fin.ext (by show (128 * h.val + d.val) / 128 = h.val; omega))
    (Fin.ext (by show (128 * h.val + d.val) % 128 = d.val; omega))

include R

/-- The scores attended to are real. -/
theorem score_real (h : Fin 8) (i : Fin 1024) (j : Fin 4096) (hj : j.val / 64 ≤ i.val / 64) :
    IsReal (Ref.scoreAt (Ref.tokens V) (Ref.toQueries V) (Ref.keys V) h i j) := by
  have hr : (√128 : ℝ) ≠ 0 := (Real.sqrt_pos.2 (by norm_num)).ne'
  have hx : ∀ i, IsReal (Ref.tokens V i) := S.x ▸ R.x
  have hq : ∀ i, IsReal (Ref.toQueries V i) := S.wq ▸ R.wq
  unfold Ref.scoreAt Ref.query
  rw [Ideal.div_coe hr]
  refine IsReal.mul (IsReal.sum _ _ fun d => IsReal.mul (IsReal.sum _ _ fun t => (hx _).mul (hq _)) ?_) ⟨_, rfl⟩
  rw [← S.k ⟨j.val, by omega⟩ h d]
  exact R.k _

/-- The reference's context: each head's mean of the values over all the keys, the same over the first 1024. -/
theorem reference_context (i c : Fin 1024) :
    Ref.mixed (Ref.vals V) (Ref.attended (res_main_v26 V) (res_main_v25 V)) (ix3 0 i c)
      = mean 1024 i.val (scoresAt I.q I.kv ⟨c.val / 128, by omega⟩ i) (valuesAt I.kv ⟨c.val / 128, by omega⟩ ⟨c.val % 128, by omega⟩) := by
  have hk : res_main_v26 V (ix1 i) = 1#1 := by
    rw [Ref.v26_eq]
    refine Ref.keeps_apply _ i ?_
    rw [Ref.allowed_apply, if_pos (show (0 : Fin 4096).val / 64 ≤ i.val / 64 from (Nat.zero_div 64).symm ▸ Nat.zero_le _)]
  have hs : ∀ (h : Fin 8) (j : Fin 4096), res_main_v20 V (ix4 0 h i j)
      = masked (j.val / 64 ≤ i.val / 64) (Ref.scoreAt (Ref.tokens V) (Ref.toQueries V) (Ref.keys V) h i j) := by
    intro h j
    rw [Ref.v20_eq]
    exact Ref.scores_apply _ _ _ _ _ h i j (Ref.allowed_apply V i j)
  rw [Ref.mixed_apply]
  simp only [Ref.attended_apply _ _ _ _ _ hk, Ref.v25_eq, Ref.exps_apply, hs]
  rw [soft_mean_of i.val _ (fun j : Fin 4096 => Ref.vals V (ix4 0 j ⟨c.val / 128, by omega⟩ ⟨c.val % 128, by omega⟩))
    (fun j hj => score_real S R _ i j hj) (by omega), mean_restrict (n := 1024) (by norm_num) (by norm_num) i.val i.isLt]
  exact congrArg₂ (mean 1024 i.val) (funext fun j => (score_eq S _ i j).symm) (funext fun j => (value_eq S _ _ j).symm)

/-- A row of the kernel's output is the reference's. -/
theorem row_eq (k : Fin 4) (i : Fin 256) (e : Fin 1024) :
    Cert.KernelIdeal.Gen.k0_pay23 I.w (context I.q I.kv k) (ix2 i e) = res_main_v40 V (ix3 0 ⟨256 * k.val + i.val, by omega⟩ e) := by
  rw [pay23_apply, Ref.v40_eq, Ref.projected_apply]
  refine Finset.sum_congr rfl fun c _ => ?_
  rw [context_apply, head_apply, reference_context S R]
  refine congrArg₂ (· * ·) rfl ?_
  show Cert.KernelIdeal.Gen.k0_pay5 I.wo _ = _
  rw [pay5_apply, S.wo]

/-- So device 0's copy is the reference's rows, -/
theorem plain_eq (k : Fin 4) (i : Fin 256) (e : Fin 1024) :
    plainRows I.q I.kv I.w k (ix3 0 i e) = res_main_v40 V (ix3 0 ⟨256 * k.val + i.val, by omega⟩ e) := by
  unfold plainRows
  rw [pay27_apply, row_eq S R]

/-- and what the others make of the codes and the scales is what the reference makes of its rows. -/
theorem sent_rows_eq (k : Fin 4) (i : Fin 256) (e : Fin 1024) :
    Cert.KernelIdeal.Gen.k0_pay165 (Cert.KernelIdeal.Gen.k0_pay164 (codes I.q I.kv I.w k) (scales I.q I.kv I.w k)) (ix3 0 i e)
      = res_main_v55 V (ix3 0 ⟨256 * k.val + i.val, by omega⟩ e) := by
  rw [deq_apply]
  unfold codes scales
  rw [pay25_apply, pay26_apply, pay24_apply, byCode_eq _ _ (peak_pos _), Ref.v55_eq, Ref.sentRows_apply, Ref.v45_eq, Ref.peaks_apply]
  simp only [row_eq S R]

end Cert.Attn

end
-- ==== Proof.Finite.lean ====
/-
# What the precondition says

The precondition's side conditions, and its reading: of each device's tokens, queries' weights and keys, every entry's
absolute value is under infinity; that is, every entry is a real number.
-/
module

public import proofs.«01_k».proof.Defs
public import proofs.«01_k».proof.Proof.Constants
public import proofs.«01_k».proof.Proof.Equation
public import Idealize.ShloMosaic.Lib.ReduceAll
public import Idealize.ShloMosaic.Lib.Pointwise

@[expose] public section

noncomputable section

namespace Cert.Attn

open Idealize.ShloMosaic

/-- The side conditions of the precondition at a device's shapes, -/
theorem factsDevice : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x8x128 := by decide
  reducesTo_S1x1024x8x128_S_d0_1_2_3 := by decide

/-- and at the whole arrays' shapes. -/
theorem factsWhole : Cert.Pre_finite_ReferenceIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

/-- An extended real whose absolute value is under infinity is real. -/
theorem isReal_of_abs (a : EReal) (h : Ideal.cmp .olt (max a (-a)) (Ideal.ofBits .bf16 0x7F80#16) = 1#1) : IsReal a := by
  rw [ofBits_top] at h
  induction a using EReal.rec with
  | coe r => exact ⟨r, rfl⟩
  | bot => exact absurd h (by simp [Ideal.cmp])
  | top => exact absurd h (by simp [Ideal.cmp])

/-- The precondition holding, the tokens, the queries' weights and the keys are real. -/
theorem real_of_finite (x : FVec Ideal Cert.Pre_finite_KernelIdeal.S1x1024x1024 .bf16) (wq : FVec Ideal Cert.Pre_finite_KernelIdeal.S1024x1024 .bf16)
    (k v : FVec Ideal Cert.Pre_finite_KernelIdeal.S1x1024x8x128 .bf16) (wo : FVec Ideal Cert.Pre_finite_KernelIdeal.S1024x1024 .bf16)
    (h : @Cert.Pre_finite_KernelIdeal.fn factsDevice Ideal _ x wq k v wo = fun _ => 1#1) : (∀ i, IsReal (x i)) ∧ (∀ i, IsReal (wq i)) ∧ (∀ i, IsReal (k i)) := by
  have both : ∀ a b : BitVec 1, IntOp.andi a b = 1#1 → a = 1#1 ∧ b = 1#1 := by decide
  haveI : Subsingleton Cert.Pre_finite_KernelIdeal.S_.Idx := ⟨fun a b => funext fun d => d.elim0⟩
  have hj := congrFun h (fun d => d.elim0)
  obtain ⟨h12, h3⟩ := both _ _ hj
  obtain ⟨h1, h2⟩ := both _ _ h12
  exact ⟨fun i => isReal_of_abs _ (Host.reduce_andi_all _ _ _ _ _ h1 i), fun i => isReal_of_abs _ (Host.reduce_andi_all _ _ _ _ _ h2 i),
    fun i => isReal_of_abs _ (Host.reduce_andi_all _ _ _ _ _ h3 i)⟩

end Cert.Attn

end
-- ==== Proof.Result.lean ====
/-
# Each device's result is its part of the reference's

The reference stacks the rows of the attention and, three times, what the quantiser makes of them. A device's result, chunk
by chunk, is the part of that stack the device stands for.
-/
module

public import proofs.«01_k».proof.Proof.Equation
public import proofs.«01_k».proof.Proof.Finite
public import proofs.«01_k».proof.Proof.Launch
public import Idealize.ShloMosaic.Lib.LayoutAt

@[expose] public section

noncomputable section

namespace Cert.Attn

open Idealize.ShloMosaic Idealize.ShloMosaic.TcCoe
open Cert.ReferenceIdeal (S1x1024x1024 S4x1024x1024)
open Cert.ReferenceIdeal.Value (res_main_v40 res_main_v55)

/-- One array, then another three times. -/
def stacked (y s : FVec Ideal S1x1024x1024 .f32) : FVec Ideal S4x1024x1024 .f32 :=
  concatenate S4x1024x1024 0 [⟨S1x1024x1024, y⟩, ⟨S1x1024x1024, s⟩, ⟨S1x1024x1024, s⟩, ⟨S1x1024x1024, s⟩]
    Cert.ReferenceIdeal.Facts₀.concatenates_S1x1024x1024_S1x1024x1024_S1x1024x1024_S1x1024x1024_S4x1024x1024_d0

theorem stacked_apply (y s : FVec Ideal S1x1024x1024 .f32) (c : Fin 4) (i e : Fin 1024) :
    stacked y s (ix3 c i e) = if c = 0 then y (ix3 0 i e) else s (ix3 0 i e) := by
  unfold stacked
  simp only [pointwise]
  match c with
  | 0 => rfl
  | 1 => rfl
  | 2 => rfl
  | 3 => rfl

variable (m : (ℓ : Loc Cert.KernelIdeal.nD Cert.KernelIdeal.τ Cert.KernelIdeal.sig) → Buf (Elt Ideal) ℓ)
variable {V : Valuation Cert.ReferenceIdeal.τ Cert.ReferenceIdeal.sig (Elt Ideal)}

/-- Row `i` of a device's result. -/
theorem outOf_row (S : Same (given m 0) V) (R : RealIn (given m 0)) (c : Fin 4) (k : Fin 4) (i : Fin 256) (e : Fin 1024) :
    outOf m c k (ix3 0 i e) = stacked (res_main_v40 V) (res_main_v55 V) (ix3 c ⟨256 * k.val + i.val, by omega⟩ e) := by
  rw [stacked_apply]
  by_cases hc : c = 0
  · rw [if_pos hc, hc, outOf_zero, plain_eq S R]
  · rw [if_neg hc, outOf_ne m c hc]
    exact sent_rows_eq S R k i e

/-- Each device's result is its part of the reference's. -/
theorem result_eq (S : Same (given m 0) V) (R : RealIn (given m 0)) (c : Fin 4) :
    outBuf (outOf m c) = Layout.block ⟨3, ![1, 1024, 1024]⟩ ⟨3, ![4, 1024, 1024]⟩ 0 4 c (stacked (res_main_v40 V) (res_main_v55 V)) := by
  funext i
  rw [Layout.block_apply]
  have h1 : (i 1).val < 1024 := (i 1).isLt
  refine Eq.trans (congrArg (outOf m c _) ?_) (Eq.trans (outOf_row m S R c ⟨(i 1).val / 256, by omega⟩ ⟨(i 1).val % 256, by omega⟩ (i 2)) (congrArg _ ?_))
  · funext a
    match a with
    | 0 => rfl
    | 1 => rfl
    | 2 => rfl
  · funext a
    have h0 : (i 0).val < 1 := (i 0).isLt
    match a with
    | 0 => exact Fin.ext (by show c.val = c.val * 1 + (i 0).val; omega)
    | 1 => exact Fin.ext (by show 256 * ((i 1).val / 256) + (i 1).val % 256 = (i 1).val; omega)
    | 2 => rfl

end Cert.Attn

end
-- ==== Proof.lean ====
/-
The certificate of the attention kernel over four devices: device 0 computes the attention of its rows and sends each
quarter of them, as int8 codes with a scale for each row, along two paths to the other three devices.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Result

@[expose] public section

noncomputable section

namespace Cert.Proof

open Idealize.ShloMosaic Idealize.ShloMosaic.TcCoe Idealize.ShloMosaic.StableHlo Idealize.SL.Sem
open Cert.Attn

/-- `Cert.quiescent_ReferenceIdeal`: the reference is one line of host operations and has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- `Cert.preserves_Kernel_KernelIdeal`: each name stands for the value its table gives it. -/
theorem preserves : Cert.preserves_Kernel_KernelIdeal :=
  ⟨IdealRules.named_const.statement _ _ _ _ _ rfl, IdealRules.named_const.statement _ _ _ _ _ rfl⟩

/-- Device 0 is given the reference's arrays, of the keys and the values the first 1024. -/
theorem given_same (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (hx : (given m 0).x = Ref.tokens V) (hq : (given m 0).wq = Ref.toQueries V)
    (hk : (given m 0).k = Layout.block ⟨4, ![1, 1024, 8, 128]⟩ ⟨4, ![1, 4096, 8, 128]⟩ 1 4 (0 : Fin 4) (Ref.keys V))
    (hv : (given m 0).v = Layout.block ⟨4, ![1, 1024, 8, 128]⟩ ⟨4, ![1, 4096, 8, 128]⟩ 1 4 (0 : Fin 4) (Ref.vals V))
    (hw : (given m 0).wo = Ref.toOutput V) : Same (given m 0) V := by
  have idx : ∀ (h8 : Layout.Tiles ⟨4, ![1, 1024, 8, 128]⟩ ⟨4, ![1, 4096, 8, 128]⟩ 1 4) (j : Fin 1024) (h : Fin 8) (d : Fin 128),
      h8.idx (0 : Fin 4) (ix4 0 j h d) = ix4 0 ⟨j.val, by omega⟩ h d := by
    intro h8 j h d
    funext a
    match a with
    | 0 => rfl
    | 1 => exact Fin.ext (by show 0 * 1024 + j.val = j.val; omega)
    | 2 => rfl
    | 3 => rfl
  exact ⟨hx, hq, fun j h d => by rw [hk, Layout.block_apply, idx], fun j h d => by rw [hv, Layout.block_apply, idx], hw⟩

/-- `Cert.algebraic_KernelIdeal_ReferenceIdeal_pre_finite_KernelIdeal`: each device's result is its part of the reference's. -/
theorem algebraic : Cert.algebraic_KernelIdeal_ReferenceIdeal_pre_finite_KernelIdeal (hPre_finite_KernelIdeal := factsDevice) := by
  intro m g m' g' hp ha
  obtain ⟨hx, hq, hk, hv, hw⟩ := ha 0
  obtain ⟨rx, rq, rk⟩ := real_of_finite _ _ _ _ _ (hp 0)
  have S : Same (given m 0) (launchContents m' 0) := given_same m _ hx hq hk hv hw
  have R : RealIn (given m 0) := ⟨rx, rq, rk⟩
  refine ⟨stacked (Cert.ReferenceIdeal.Value.res_main_v40 (launchContents m' 0)) (Cert.ReferenceIdeal.Value.res_main_v55 (launchContents m' 0)), ?_, ?_⟩
  · exact (θ_run Cert.KernelIdeal.defs _ _).mono
      (fun _ h c => ⟨((h.1 c (5 : Fin 6)).trans (finalA_out m g c)).trans (result_eq m S R c),
        (h.1 c (0 : Fin 6)).trans (finalA_in m g c 0 (by decide)), (h.1 c (1 : Fin 6)).trans (finalA_in m g c 1 (by decide)),
        (h.1 c (2 : Fin 6)).trans (finalA_in m g c 2 (by decide)), (h.1 c (3 : Fin 6)).trans (finalA_in m g c 3 (by decide)),
        (h.1 c (4 : Fin 6)).trans (finalA_in m g c 4 (by decide))⟩)
      (run_main m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts, factsDevice, factsWhole,
  frame_kernel, frame_kernelIdeal, fun m g _ => frame_kernelIdeal m g trivial, frame_reference, fun m g _ => frame_reference m g trivial,
  preserves, algebraic⟩

end Cert.Proof

end
